-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_operands [hPre_finite_operands : Cert.Pre_finite_operands.Facts] (m : (ℓ : Loc Cert.KernelIdeal.nD Cert.KernelIdeal.τ Cert.KernelIdeal.sig) → Buf (Elt Ideal) ℓ) : Prop :=
  ∀ c : Dev Cert.KernelIdeal.nD,
    (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_operands [hPre_finite_operands : Cert.Pre_finite_operands.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_operands [hKernelIdeal : Cert.KernelIdeal.Facts] [hPre_finite_operands : Cert.Pre_finite_operands.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_operands m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_operands [hReferenceIdeal : Cert.ReferenceIdeal.Facts] [hPre_finite_operands : Cert.Pre_finite_operands.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_operands m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite_operands [hKernelIdeal : Cert.KernelIdeal.Facts] [hReferenceIdeal : Cert.ReferenceIdeal.Facts] [hPre_finite_operands : Cert.Pre_finite_operands.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_operands m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_operands : Cert.Pre_finite_operands.Facts),
    quiescent_Kernel (hKernel := hKernel)
    ∧ quiescent_KernelIdeal (hKernelIdeal := hKernelIdeal)
    ∧ quiescent_KernelIdeal_pre_finite_operands (hKernelIdeal := hKernelIdeal) (hPre_finite_operands := hPre_finite_operands)
    ∧ quiescent_ReferenceIdeal (hReferenceIdeal := hReferenceIdeal)
    ∧ quiescent_ReferenceIdeal_pre_finite_operands (hReferenceIdeal := hReferenceIdeal) (hPre_finite_operands := hPre_finite_operands)
    ∧ preserves_Kernel_KernelIdeal
    ∧ algebraic_KernelIdeal_ReferenceIdeal_pre_finite_operands (hKernelIdeal := hKernelIdeal) (hReferenceIdeal := hReferenceIdeal) (hPre_finite_operands := hPre_finite_operands)
-- ==== Pre_finite_operands.lean ====
abbrev S4096x200x5 : Shape := ⟨3, ![4096, 200, 5]⟩
abbrev S256x32 : Shape := ⟨2, ![256, 32]⟩
abbrev S64x32 : Shape := ⟨2, ![64, 32]⟩
abbrev S2x8 : Shape := ⟨2, ![2, 8]⟩
abbrev S32x1 : Shape := ⟨2, ![32, 1]⟩
abbrev S32 : Shape := ⟨1, ![32]⟩
abbrev S256x136 : Shape := ⟨2, ![256, 136]⟩
abbrev S256 : Shape := ⟨1, ![256]⟩
abbrev S4096x200x1 : Shape := ⟨3, ![4096, 200, 1]⟩
abbrev S4096x200 : Shape := ⟨2, ![4096, 200]⟩
abbrev S_ : Shape := ⟨0, ![]⟩

class Facts : Prop where
  slices_S4096x200x5_S4096x200x1_0_0_1 : S4096x200x5.Slices ![0, 0, 1] S4096x200x1
  shapeCasts_S4096x200x1_S4096x200 : S4096x200x1.ShapeCasts S4096x200
  bcast_S_S4096x200 : S_.BroadcastsInDim S4096x200 (![] : Fin 0 → Fin S4096x200.rank)
  reducesTo_S4096x200_S_d0_1 : S4096x200.ReducesTo [0, 1] S_
  h_S_ : 0 < S_.numel
  slices_S4096x200x5_S4096x200x1_0_0_3 : S4096x200x5.Slices ![0, 0, 3] S4096x200x1
  slices_S256x136_S256x32_0_32 : S256x136.Slices ![0, 32] S256x32
  bcast_S_S256x32 : S_.BroadcastsInDim S256x32 (![] : Fin 0 → Fin S256x32.rank)
  reducesTo_S256x32_S_d0_1 : S256x32.ReducesTo [0, 1] S_
  slices_S256x136_S256x32_0_96 : S256x136.Slices ![0, 96] S256x32

variable [Facts]

def fn_part1 {F : FTy → Type} [FloatOps F] (main_arg8 : FVec F S256x136 .f32) (main_v12 : IVec S_ 1) (main_v17 : IVec S_ 1) : IVec S_ 1 :=
  let main_v18 : IVec S_ 1 := andi main_v12 main_v17
  let main_v19 : FVec F S256x32 .f32 := (extractStridedSlice S256x32 ![0, 96] · slices_S256x136_S256x32_0_96) main_arg8
  let main_v20 : FVec F S256x32 .f32 := Host.absf main_v19
  let main_cst_4 : FVec F S_ .f32 := constant S_ .f32 0x7F800000#32
  let main_v21 : FVec F S256x32 .f32 := broadcastInDim S256x32 ![] bcast_S_S256x32 main_cst_4
  let main_v22 : IVec S256x32 1 := cmpf .olt main_v20 main_v21
  let main_c_5 : IVec S_ 1 := constantI S_ 1 1#1
  let main_v23 : IVec S_ 1 := (fun x v => Host.reduce IntOp.andi x v reducesTo_S256x32_S_d0_1 h_S_) main_v22 main_c_5
  let main_v24 : IVec S_ 1 := andi main_v18 main_v23
  main_v24

def fn {F : FTy → Type} [FloatOps F] (main_arg0 : FVec F S4096x200x5 .f32) (main_arg1 : FVec F S256x32 .f32) (main_arg2 : FVec F S64x32 .f32) (main_arg3 : FVec F S2x8 .f32) (main_arg4 : FVec F S32x1 .f32) (main_arg5 : FVec F S32 .f32) (main_arg6 : FVec F S32x1 .f32) (main_arg7 : FVec F S32 .f32) (main_arg8 : FVec F S256x136 .f32) (main_arg9 : FVec F S256 .f32) (main_arg10 : FVec F S256 .f32) (main_arg11 : FVec F S256 .f32) : IVec S_ 1 :=
  let main_v0 : FVec F S4096x200x1 .f32 := (extractStridedSlice S4096x200x1 ![0, 0, 1] · slices_S4096x200x5_S4096x200x1_0_0_1) main_arg0
  let main_v1 : FVec F S4096x200 .f32 := shapeCast S4096x200 main_v0 shapeCasts_S4096x200x1_S4096x200
  let main_v2 : FVec F S4096x200 .f32 := Host.absf main_v1
  let main_cst : FVec F S_ .f32 := constant S_ .f32 0x7F800000#32
  let main_v3 : FVec F S4096x200 .f32 := broadcastInDim S4096x200 ![] bcast_S_S4096x200 main_cst
  let main_v4 : IVec S4096x200 1 := cmpf .olt main_v2 main_v3
  let main_c : IVec S_ 1 := constantI S_ 1 1#1
  let main_v5 : IVec S_ 1 := (fun x v => Host.reduce IntOp.andi x v reducesTo_S4096x200_S_d0_1 h_S_) main_v4 main_c
  let main_v6 : FVec F S4096x200x1 .f32 := (extractStridedSlice S4096x200x1 ![0, 0, 3] · slices_S4096x200x5_S4096x200x1_0_0_3) main_arg0
  let main_v7 : FVec F S4096x200 .f32 := shapeCast S4096x200 main_v6 shapeCasts_S4096x200x1_S4096x200
  let main_v8 : FVec F S4096x200 .f32 := Host.absf main_v7
  let main_cst_0 : FVec F S_ .f32 := constant S_ .f32 0x7F800000#32
  let main_v9 : FVec F S4096x200 .f32 := broadcastInDim S4096x200 ![] bcast_S_S4096x200 main_cst_0
  let main_v10 : IVec S4096x200 1 := cmpf .olt main_v8 main_v9
  let main_c_1 : IVec S_ 1 := constantI S_ 1 1#1
  let main_v11 : IVec S_ 1 := (fun x v => Host.reduce IntOp.andi x v reducesTo_S4096x200_S_d0_1 h_S_) main_v10 main_c_1
  let main_v12 : IVec S_ 1 := andi main_v5 main_v11
  let main_v13 : FVec F S256x32 .f32 := (extractStridedSlice S256x32 ![0, 32] · slices_S256x136_S256x32_0_32) main_arg8
  let main_v14 : FVec F S256x32 .f32 := Host.absf main_v13
  let main_cst_2 : FVec F S_ .f32 := constant S_ .f32 0x7F800000#32
  let main_v15 : FVec F S256x32 .f32 := broadcastInDim S256x32 ![] bcast_S_S256x32 main_cst_2
  let main_v16 : IVec S256x32 1 := cmpf .olt main_v14 main_v15
  let main_c_3 : IVec S_ 1 := constantI S_ 1 1#1
  let main_v17 : IVec S_ 1 := (fun x v => Host.reduce IntOp.andi x v reducesTo_S256x32_S_d0_1 h_S_) main_v16 main_c_3
  fn_part1 (F := F) main_arg8 main_v12 main_v17
-- ==== Kernel.lean ====
abbrev S4096x200x5 : Shape := ⟨3, ![4096, 200, 5]⟩
abbrev S256x32 : Shape := ⟨2, ![256, 32]⟩
abbrev S64x32 : Shape := ⟨2, ![64, 32]⟩
abbrev S2x8 : Shape := ⟨2, ![2, 8]⟩
abbrev S32x1 : Shape := ⟨2, ![32, 1]⟩
abbrev S32 : Shape := ⟨1, ![32]⟩
abbrev S256x136 : Shape := ⟨2, ![256, 136]⟩
abbrev S256 : Shape := ⟨1, ![256]⟩
abbrev S819200x5 : Shape := ⟨2, ![819200, 5]⟩
abbrev S136x256 : Shape := ⟨2, ![136, 256]⟩
abbrev S1x32 : Shape := ⟨2, ![1, 32]⟩
abbrev S1x256 : Shape := ⟨2, ![1, 256]⟩
abbrev S256x256 : Shape := ⟨2, ![256, 256]⟩
abbrev S128x256 : Shape := ⟨2, ![128, 256]⟩
abbrev S819200x256 : Shape := ⟨2, ![819200, 256]⟩
abbrev S4096x200x256 : Shape := ⟨3, ![4096, 200, 256]⟩
abbrev S32x256 : Shape := ⟨2, ![32, 256]⟩
abbrev S8x256 : Shape := ⟨2, ![8, 256]⟩
abbrev S64x256 : Shape := ⟨2, ![64, 256]⟩
abbrev S2x256 : Shape := ⟨2, ![2, 256]⟩
abbrev S1024x5 : Shape := ⟨2, ![1024, 5]⟩
abbrev S1024x256 : Shape := ⟨2, ![1024, 256]⟩
abbrev S1024x1 : Shape := ⟨2, ![1024, 1]⟩
abbrev S1x128 : Shape := ⟨2, ![1, 128]⟩
abbrev S1024x128 : Shape := ⟨2, ![1024, 128]⟩
abbrev S1024 : Shape := ⟨1, ![1024]⟩

abbrev nBuf : Space → Nat
  | .hbm => 27
  | .vmem => 23
  | .smem => 0
  | _ => 0

abbrev bufTy : (tb : Table) → Fin (tcTables nBuf tb) → BufTy
  | .hbm, ⟨0, _⟩ => ⟨S4096x200x5, .f32⟩
  | .hbm, ⟨1, _⟩ => ⟨S256x32, .f32⟩
  | .hbm, ⟨2, _⟩ => ⟨S64x32, .f32⟩
  | .hbm, ⟨3, _⟩ => ⟨S2x8, .f32⟩
  | .hbm, ⟨4, _⟩ => ⟨S32x1, .f32⟩
  | .hbm, ⟨5, _⟩ => ⟨S32, .f32⟩
  | .hbm, ⟨6, _⟩ => ⟨S32x1, .f32⟩
  | .hbm, ⟨7, _⟩ => ⟨S32, .f32⟩
  | .hbm, ⟨8, _⟩ => ⟨S256x136, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S819200x5, .f32⟩
  | .hbm, ⟨13, _⟩ => ⟨S136x256, .f32⟩
  | .hbm, ⟨14, _⟩ => ⟨S1x32, .f32⟩
  | .hbm, ⟨15, _⟩ => ⟨S1x32, .f32⟩
  | .hbm, ⟨16, _⟩ => ⟨S1x32, .f32⟩
  | .hbm, ⟨17, _⟩ => ⟨S1x32, .f32⟩
  | .hbm, ⟨18, _⟩ => ⟨S1x256, .f32⟩
  | .hbm, ⟨19, _⟩ => ⟨S256x256, .bf16⟩
  | .hbm, ⟨20, _⟩ => ⟨S128x256, .bf16⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S1x256, .f32⟩
  | .hbm, ⟨25, _⟩ => ⟨S819200x256, .f32⟩
  | .hbm, ⟨26, _⟩ => ⟨S4096x200x256, .f32⟩
  | .local _ .vmem, ⟨0, _⟩ => ⟨S256x32, .f32⟩
  | .local _ .vmem, ⟨1, _⟩ => ⟨S64x32, .f32⟩
  | .local _ .vmem, ⟨2, _⟩ => ⟨S2x8, .f32⟩
  | .local _ .vmem, ⟨3, _⟩ => ⟨S136x256, .f32⟩
  | .local _ .vmem, ⟨4, _⟩ => ⟨S1x32, .f32⟩
  | .local _ .vmem, ⟨5, _⟩ => ⟨S1x32, .f32⟩
  | .local _ .vmem, ⟨6, _⟩ => ⟨S1x32, .f32⟩
  | .local _ .vmem, ⟨7, _⟩ => ⟨S1x32, .f32⟩
  | .local _ .vmem, ⟨8, _⟩ => ⟨S1x256, .f32⟩
  | .local _ .vmem, ⟨9, _⟩ => ⟨S256x256, .bf16⟩
  | .local _ .vmem, ⟨10, _⟩ => ⟨S128x256, .bf16⟩
  | .local _ .vmem, ⟨11, _⟩ => ⟨S1x256, .f32⟩
  | .local _ .vmem, ⟨12, _⟩ => ⟨S1x256, .f32⟩
  | .local _ .vmem, ⟨13, _⟩ => ⟨S1024x5, .f32⟩
  | .local _ .vmem, ⟨14, _⟩ => ⟨S1024x5, .f32⟩
  | .local _ .vmem, ⟨15, _⟩ => ⟨S256x256, .bf16⟩
  | .local _ .vmem, ⟨16, _⟩ => ⟨S128x256, .bf16⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1024x256, .f32⟩
  | .local _ .vmem, ⟨22, _⟩ => ⟨S1024x256, .f32⟩
  | _, _ => ⟨S4096x200x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7_0 : Ref sig .tc := ⟨.hbm, 19, rfl⟩
abbrev main_call0_v7_1 : Ref sig .tc := ⟨.hbm, 20, rfl⟩
abbrev main_call0_v7_2 : Ref sig .tc := ⟨.hbm, 21, rfl⟩
abbrev main_call0_v7_3 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_v0 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22

abbrev nD : Nat := 1
abbrev τ : Topo := Topo.v7x

variable {F : FTy → Type} [FloatOps F]

abbrev grid0 : Pipeline.Grid := .none

abbrev stage0_0 : Fin 1 → Memref sig .tc .vmem S256x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S136x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev grid1 : Pipeline.Grid := ⟨1, ![800], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x5 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1024x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceIdeal.lean ====
abbrev S4096x200x5 : Shape := ⟨3, ![4096, 200, 5]⟩
abbrev S256x32 : Shape := ⟨2, ![256, 32]⟩
abbrev S64x32 : Shape := ⟨2, ![64, 32]⟩
abbrev S2x8 : Shape := ⟨2, ![2, 8]⟩
abbrev S32x1 : Shape := ⟨2, ![32, 1]⟩
abbrev S32 : Shape := ⟨1, ![32]⟩
abbrev S256x136 : Shape := ⟨2, ![256, 136]⟩
abbrev S256 : Shape := ⟨1, ![256]⟩
abbrev S4096x200x1 : Shape := ⟨3, ![4096, 200, 1]⟩
abbrev S4096x200 : Shape := ⟨2, ![4096, 200]⟩
abbrev S_ : Shape := ⟨0, ![]⟩
abbrev S1 : Shape := ⟨1, ![1]⟩
abbrev S1x1x1 : Shape := ⟨3, ![1, 1, 1]⟩
abbrev S4096x200x32 : Shape := ⟨3, ![4096, 200, 32]⟩
abbrev S4096x200x8 : Shape := ⟨3, ![4096, 200, 8]⟩
abbrev S1x32 : Shape := ⟨2, ![1, 32]⟩
abbrev S1x1x32 : Shape := ⟨3, ![1, 1, 32]⟩
abbrev S4096x200x136 : Shape := ⟨3, ![4096, 200, 136]⟩
abbrev S136x256 : Shape := ⟨2, ![136, 256]⟩
abbrev S4096x200x256 : Shape := ⟨3, ![4096, 200, 256]⟩
abbrev S1x1x256 : Shape := ⟨3, ![1, 1, 256]⟩

abbrev nBuf : Space → Nat
  | .hbm => 176
  | .vmem => 0
  | .smem => 0
  | _ => 0

abbrev hbmTy0_0 (i : Nat) : BufTy := match i % 128 with
  | 0 => ⟨S4096x200x5, .f32⟩
  | 1 => ⟨S256x32, .f32⟩
  | 2 => ⟨S64x32, .f32⟩
  | 3 => ⟨S2x8, .f32⟩
  | 4 => ⟨S32x1, .f32⟩
  | 5 => ⟨S32, .f32⟩
  | 6 => ⟨S32x1, .f32⟩
  | 7 => ⟨S32, .f32⟩
  | 8 => ⟨S256x136, .f32⟩
  | 9 => ⟨S256, .f32⟩
  | 10 => ⟨S256, .f32⟩
  | 11 => ⟨S256, .f32⟩
  | 12 => ⟨S4096x200x1, .f32⟩
  | 13 => ⟨S4096x200, .f32⟩
  | 14 => ⟨S4096x200, .i32⟩
  | 15 => ⟨S_, .i32⟩
  | 16 => ⟨S_, .i32⟩
  | 17 => ⟨S_, .i32⟩
  | 18 => ⟨S4096x200, .i32⟩
  | 19 => ⟨S4096x200, .i32⟩
  | 20 => ⟨S_, .i32⟩
  | 21 => ⟨S4096x200, .i32⟩
  | 22 => ⟨S4096x200, .i32⟩
  | 23 => ⟨S4096x200x1, .f32⟩
  | 24 => ⟨S4096x200, .f32⟩
  | 25 => ⟨S4096x200, .i32⟩
  | 26 => ⟨S_, .i32⟩
  | 27 => ⟨S_, .i32⟩
  | 28 => ⟨S_, .i32⟩
  | 29 => ⟨S4096x200, .i32⟩
  | 30 => ⟨S4096x200, .i32⟩
  | 31 => ⟨S_, .i32⟩
  | 32 => ⟨S4096x200, .i32⟩
  | 33 => ⟨S4096x200, .i32⟩
  | 34 => ⟨S4096x200x1, .f32⟩
  | 35 => ⟨S4096x200, .f32⟩
  | 36 => ⟨S4096x200, .i32⟩
  | 37 => ⟨S_, .i32⟩
  | 38 => ⟨S_, .i32⟩
  | 39 => ⟨S_, .i32⟩
  | 40 => ⟨S4096x200, .i32⟩
  | 41 => ⟨S4096x200, .i32⟩
  | 42 => ⟨S_, .i32⟩
  | 43 => ⟨S4096x200, .i32⟩
  | 44 => ⟨S4096x200, .i32⟩
  | 45 => ⟨S_, .i32⟩
  | 46 => ⟨S4096x200, .i32⟩
  | 47 => ⟨S4096x200, .i1⟩
  | 48 => ⟨S_, .i32⟩
  | 49 => ⟨S4096x200, .i32⟩
  | 50 => ⟨S4096x200, .i32⟩
  | 51 => ⟨S4096x200, .i32⟩
  | 52 => ⟨S4096x200x1, .i32⟩
  | 53 => ⟨S1, .i32⟩
  | 54 => ⟨S_, .i32⟩
  | 55 => ⟨S4096x200x1, .i32⟩
  | 56 => ⟨S4096x200x1, .i1⟩
  | 57 => ⟨S1x1x1, .i32⟩
  | 58 => ⟨S4096x200x1, .i32⟩
  | 59 => ⟨S4096x200x1, .i1⟩
  | 60 => ⟨S4096x200x1, .i1⟩
  | 61 => ⟨S_, .i1⟩
  | 62 => ⟨S4096x200, .i1⟩
  | 63 => ⟨S4096x200x32, .f32⟩
  | 64 => ⟨S4096x200x32, .i1⟩
  | 65 => ⟨S_, .f32⟩
  | 66 => ⟨S4096x200x32, .f32⟩
  | 67 => ⟨S4096x200x32, .f32⟩
  | 68 => ⟨S_, .i32⟩
  | 69 => ⟨S4096x200, .i32⟩
  | 70 => ⟨S4096x200, .i1⟩
  | 71 => ⟨S_, .i32⟩
  | 72 => ⟨S4096x200, .i32⟩
  | 73 => ⟨S4096x200, .i32⟩
  | 74 => ⟨S4096x200, .i32⟩
  | 75 => ⟨S4096x200x1, .i32⟩
  | 76 => ⟨S1, .i32⟩
  | 77 => ⟨S_, .i32⟩
  | 78 => ⟨S4096x200x1, .i32⟩
  | 79 => ⟨S4096x200x1, .i1⟩
  | 80 => ⟨S1x1x1, .i32⟩
  | 81 => ⟨S4096x200x1, .i32⟩
  | 82 => ⟨S4096x200x1, .i1⟩
  | 83 => ⟨S4096x200x1, .i1⟩
  | 84 => ⟨S_, .i1⟩
  | 85 => ⟨S4096x200, .i1⟩
  | 86 => ⟨S4096x200x32, .f32⟩
  | 87 => ⟨S4096x200x32, .i1⟩
  | 88 => ⟨S_, .f32⟩
  | 89 => ⟨S4096x200x32, .f32⟩
  | 90 => ⟨S4096x200x32, .f32⟩
  | 91 => ⟨S_, .i32⟩
  | 92 => ⟨S4096x200, .i32⟩
  | 93 => ⟨S4096x200, .i1⟩
  | 94 => ⟨S_, .i32⟩
  | 95 => ⟨S4096x200, .i32⟩
  | 96 => ⟨S4096x200, .i32⟩
  | 97 => ⟨S4096x200, .i32⟩
  | 98 => ⟨S4096x200x1, .i32⟩
  | 99 => ⟨S1, .i32⟩
  | 100 => ⟨S_, .i32⟩
  | 101 => ⟨S4096x200x1, .i32⟩
  | 102 => ⟨S4096x200x1, .i1⟩
  | 103 => ⟨S1x1x1, .i32⟩
  | 104 => ⟨S4096x200x1, .i32⟩
  | 105 => ⟨S4096x200x1, .i1⟩
  | 106 => ⟨S4096x200x1, .i1⟩
  | 107 => ⟨S_, .i1⟩
  | 108 => ⟨S4096x200, .i1⟩
  | 109 => ⟨S4096x200x8, .f32⟩
  | 110 => ⟨S4096x200x8, .i1⟩
  | 111 => ⟨S_, .f32⟩
  | 112 => ⟨S4096x200x8, .f32⟩
  | 113 => ⟨S4096x200x8, .f32⟩
  | 114 => ⟨S4096x200x1, .f32⟩
  | 115 => ⟨S1x32, .f32⟩
  | 116 => ⟨S4096x200x32, .f32⟩
  | 117 => ⟨S1x1x32, .f32⟩
  | 118 => ⟨S4096x200x32, .f32⟩
  | 119 => ⟨S4096x200x32, .f32⟩
  | 120 => ⟨S4096x200x1, .f32⟩
  | 121 => ⟨S1x32, .f32⟩
  | 122 => ⟨S4096x200x32, .f32⟩
  | 123 => ⟨S1x1x32, .f32⟩
  | 124 => ⟨S4096x200x32, .f32⟩
  | 125 => ⟨S4096x200x32, .f32⟩
  | 126 => ⟨S4096x200x136, .f32⟩
  | 127 => ⟨S136x256, .f32⟩
  | _ => ⟨S4096x200x5, .f32⟩

abbrev hbmTy0_1 (i : Nat) : BufTy := match i % 128 with
  | 0 => ⟨S4096x200x256, .f32⟩
  | 1 => ⟨S1x1x256, .f32⟩
  | 2 => ⟨S4096x200x256, .f32⟩
  | 3 => ⟨S4096x200x256, .f32⟩
  | 4 => ⟨S_, .f32⟩
  | 5 => ⟨S4096x200, .f32⟩
  | 6 => ⟨S4096x200x1, .f32⟩
  | 7 => ⟨S_, .f32⟩
  | 8 => ⟨S4096x200x1, .f32⟩
  | 9 => ⟨S4096x200x1, .f32⟩
  | 10 => ⟨S_, .i32⟩
  | 11 => ⟨S_, .f32⟩
  | 12 => ⟨S4096x200, .f32⟩
  | 13 => ⟨S4096x200x1, .f32⟩
  | 14 => ⟨S_, .f32⟩
  | 15 => ⟨S4096x200x1, .f32⟩
  | 16 => ⟨S4096x200x1, .f32⟩
  | 17 => ⟨S4096x200x256, .f32⟩
  | 18 => ⟨S4096x200x256, .f32⟩
  | 19 => ⟨S4096x200x256, .f32⟩
  | 20 => ⟨S_, .f32⟩
  | 21 => ⟨S_, .f32⟩
  | 22 => ⟨S_, .f32⟩
  | 23 => ⟨S_, .f32⟩
  | 24 => ⟨S4096x200, .f32⟩
  | 25 => ⟨S4096x200x1, .f32⟩
  | 26 => ⟨S4096x200x1, .f32⟩
  | 27 => ⟨S4096x200x1, .f32⟩
  | 28 => ⟨S_, .f32⟩
  | 29 => ⟨S_, .i1⟩
  | 30 => ⟨S_, .f32⟩
  | 31 => ⟨S_, .f32⟩
  | 32 => ⟨S4096x200x1, .f32⟩
  | 33 => ⟨S4096x200x1, .f32⟩
  | 34 => ⟨S4096x200x256, .f32⟩
  | 35 => ⟨S4096x200x256, .f32⟩
  | 36 => ⟨S_, .f32⟩
  | 37 => ⟨S4096x200x1, .f32⟩
  | 38 => ⟨S4096x200x1, .f32⟩
  | 39 => ⟨S4096x200x1, .f32⟩
  | 40 => ⟨S4096x200x256, .f32⟩
  | 41 => ⟨S4096x200x256, .f32⟩
  | 42 => ⟨S1x1x256, .f32⟩
  | 43 => ⟨S4096x200x256, .f32⟩
  | 44 => ⟨S4096x200x256, .f32⟩
  | 45 => ⟨S1x1x256, .f32⟩
  | 46 => ⟨S4096x200x256, .f32⟩
  | 47 => ⟨S4096x200x256, .f32⟩
  | _ => ⟨S4096x200x5, .f32⟩

abbrev hbmTy (i : Nat) : BufTy := match i / 128 with
  | 0 => hbmTy0_0 i
  | 1 => hbmTy0_1 i
  | _ => ⟨S4096x200x5, .f32⟩

abbrev bufTy : (tb : Table) → Fin (tcTables nBuf tb) → BufTy
  | .hbm, ⟨i, _⟩ => hbmTy i
  | _, _ => ⟨S4096x200x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_c_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_c_2 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_c_3 : Ref sig .tc := ⟨.hbm, 37, rfl⟩
abbrev main_c_4 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_v11 : Ref sig .tc := ⟨.hbm, 44, rfl⟩
abbrev main_call3_c : Ref sig .tc := ⟨.hbm, 45, rfl⟩
abbrev main_call3_v0 : Ref sig .tc := ⟨.hbm, 46, rfl⟩
abbrev main_call3_v1 : Ref sig .tc := ⟨.hbm, 47, rfl⟩
abbrev main_call3_c_0 : Ref sig .tc := ⟨.hbm, 48, rfl⟩
abbrev main_call3_v2 : Ref sig .tc := ⟨.hbm, 49, rfl⟩
abbrev main_call3_v3 : Ref sig .tc := ⟨.hbm, 50, rfl⟩
abbrev main_call3_v4 : Ref sig .tc := ⟨.hbm, 51, rfl⟩
abbrev main_call3_v5 : Ref sig .tc := ⟨.hbm, 52, rfl⟩
abbrev main_call3_c_1 : Ref sig .tc := ⟨.hbm, 53, rfl⟩
abbrev main_call3_c_2 : Ref sig .tc := ⟨.hbm, 54, rfl⟩
abbrev main_call3_v6 : Ref sig .tc := ⟨.hbm, 55, rfl⟩
abbrev main_call3_v7 : Ref sig .tc := ⟨.hbm, 56, rfl⟩
abbrev main_call3_v8 : Ref sig .tc := ⟨.hbm, 57, rfl⟩
abbrev main_call3_v9 : Ref sig .tc := ⟨.hbm, 58, rfl⟩
abbrev main_call3_v10 : Ref sig .tc := ⟨.hbm, 59, rfl⟩
abbrev main_call3_v11 : Ref sig .tc := ⟨.hbm, 60, rfl⟩
abbrev main_call3_c_3 : Ref sig .tc := ⟨.hbm, 61, rfl⟩
abbrev main_call3_v12 : Ref sig .tc := ⟨.hbm, 62, rfl⟩
abbrev main_call3_v13 : Ref sig .tc := ⟨.hbm, 63, rfl⟩
abbrev main_call3_v14 : Ref sig .tc := ⟨.hbm, 64, rfl⟩
abbrev main_call3_cst : Ref sig .tc := ⟨.hbm, 65, rfl⟩
abbrev main_call3_v15 : Ref sig .tc := ⟨.hbm, 66, rfl⟩
abbrev main_v12 : Ref sig .tc := ⟨.hbm, 67, rfl⟩
abbrev main_call4_c : Ref sig .tc := ⟨.hbm, 68, rfl⟩
abbrev main_call4_v0 : Ref sig .tc := ⟨.hbm, 69, rfl⟩
abbrev main_call4_v1 : Ref sig .tc := ⟨.hbm, 70, rfl⟩
abbrev main_call4_c_0 : Ref sig .tc := ⟨.hbm, 71, rfl⟩
abbrev main_call4_v2 : Ref sig .tc := ⟨.hbm, 72, rfl⟩
abbrev main_call4_v3 : Ref sig .tc := ⟨.hbm, 73, rfl⟩
abbrev main_call4_v4 : Ref sig .tc := ⟨.hbm, 74, rfl⟩
abbrev main_call4_v5 : Ref sig .tc := ⟨.hbm, 75, rfl⟩
abbrev main_call4_c_1 : Ref sig .tc := ⟨.hbm, 76, rfl⟩
abbrev main_call4_c_2 : Ref sig .tc := ⟨.hbm, 77, rfl⟩
abbrev main_call4_v6 : Ref sig .tc := ⟨.hbm, 78, rfl⟩
abbrev main_call4_v7 : Ref sig .tc := ⟨.hbm, 79, rfl⟩
abbrev main_call4_v8 : Ref sig .tc := ⟨.hbm, 80, rfl⟩
abbrev main_call4_v9 : Ref sig .tc := ⟨.hbm, 81, rfl⟩
abbrev main_call4_v10 : Ref sig .tc := ⟨.hbm, 82, rfl⟩
abbrev main_call4_v11 : Ref sig .tc := ⟨.hbm, 83, rfl⟩
abbrev main_call4_c_3 : Ref sig .tc := ⟨.hbm, 84, rfl⟩
abbrev main_call4_v12 : Ref sig .tc := ⟨.hbm, 85, rfl⟩
abbrev main_call4_v13 : Ref sig .tc := ⟨.hbm, 86, rfl⟩
abbrev main_call4_v14 : Ref sig .tc := ⟨.hbm, 87, rfl⟩
abbrev main_call4_cst : Ref sig .tc := ⟨.hbm, 88, rfl⟩
abbrev main_call4_v15 : Ref sig .tc := ⟨.hbm, 89, rfl⟩
abbrev main_v13 : Ref sig .tc := ⟨.hbm, 90, rfl⟩
abbrev main_call5_c : Ref sig .tc := ⟨.hbm, 91, rfl⟩
abbrev main_call5_v0 : Ref sig .tc := ⟨.hbm, 92, rfl⟩
abbrev main_call5_v1 : Ref sig .tc := ⟨.hbm, 93, rfl⟩
abbrev main_call5_c_0 : Ref sig .tc := ⟨.hbm, 94, rfl⟩
abbrev main_call5_v2 : Ref sig .tc := ⟨.hbm, 95, rfl⟩
abbrev main_call5_v3 : Ref sig .tc := ⟨.hbm, 96, rfl⟩
abbrev main_call5_v4 : Ref sig .tc := ⟨.hbm, 97, rfl⟩
abbrev main_call5_v5 : Ref sig .tc := ⟨.hbm, 98, rfl⟩
abbrev main_call5_c_1 : Ref sig .tc := ⟨.hbm, 99, rfl⟩
abbrev main_call5_c_2 : Ref sig .tc := ⟨.hbm, 100, rfl⟩
abbrev main_call5_v6 : Ref sig .tc := ⟨.hbm, 101, rfl⟩
abbrev main_call5_v7 : Ref sig .tc := ⟨.hbm, 102, rfl⟩
abbrev main_call5_v8 : Ref sig .tc := ⟨.hbm, 103, rfl⟩
abbrev main_call5_v9 : Ref sig .tc := ⟨.hbm, 104, rfl⟩
abbrev main_call5_v10 : Ref sig .tc := ⟨.hbm, 105, rfl⟩
abbrev main_call5_v11 : Ref sig .tc := ⟨.hbm, 106, rfl⟩
abbrev main_call5_c_3 : Ref sig .tc := ⟨.hbm, 107, rfl⟩
abbrev main_call5_v12 : Ref sig .tc := ⟨.hbm, 108, rfl⟩
abbrev main_call5_v13 : Ref sig .tc := ⟨.hbm, 109, rfl⟩
abbrev main_call5_v14 : Ref sig .tc := ⟨.hbm, 110, rfl⟩
abbrev main_call5_cst : Ref sig .tc := ⟨.hbm, 111, rfl⟩
abbrev main_call5_v15 : Ref sig .tc := ⟨.hbm, 112, rfl⟩
abbrev main_v14 : Ref sig .tc := ⟨.hbm, 113, rfl⟩
abbrev main_v15 : Ref sig .tc := ⟨.hbm, 114, rfl⟩
abbrev main_v16 : Ref sig .tc := ⟨.hbm, 115, rfl⟩
abbrev main_v17 : Ref sig .tc := ⟨.hbm, 116, rfl⟩
abbrev main_v18 : Ref sig .tc := ⟨.hbm, 117, rfl⟩
abbrev main_v19 : Ref sig .tc := ⟨.hbm, 118, rfl⟩
abbrev main_v20 : Ref sig .tc := ⟨.hbm, 119, rfl⟩
abbrev main_v21 : Ref sig .tc := ⟨.hbm, 120, rfl⟩
abbrev main_v22 : Ref sig .tc := ⟨.hbm, 121, rfl⟩
abbrev main_v23 : Ref sig .tc := ⟨.hbm, 122, rfl⟩
abbrev main_v24 : Ref sig .tc := ⟨.hbm, 123, rfl⟩
abbrev main_v25 : Ref sig .tc := ⟨.hbm, 124, rfl⟩
abbrev main_v26 : Ref sig .tc := ⟨.hbm, 125, rfl⟩
abbrev main_v27 : Ref sig .tc := ⟨.hbm, 126, rfl⟩
abbrev main_v28 : Ref sig .tc := ⟨.hbm, 127, rfl⟩
abbrev main_v29 : Ref sig .tc := ⟨.hbm, 128, rfl⟩
abbrev main_v30 : Ref sig .tc := ⟨.hbm, 129, rfl⟩
abbrev main_v31 : Ref sig .tc := ⟨.hbm, 130, rfl⟩
abbrev main_v32 : Ref sig .tc := ⟨.hbm, 131, rfl⟩
abbrev main_cst : Ref sig .tc := ⟨.hbm, 132, rfl⟩
abbrev main_v33 : Ref sig .tc := ⟨.hbm, 133, rfl⟩
abbrev main_v34 : Ref sig .tc := ⟨.hbm, 134, rfl⟩
abbrev main_cst_5 : Ref sig .tc := ⟨.hbm, 135, rfl⟩
abbrev main_v35 : Ref sig .tc := ⟨.hbm, 136, rfl⟩
abbrev main_v36 : Ref sig .tc := ⟨.hbm, 137, rfl⟩
abbrev main_c_6 : Ref sig .tc := ⟨.hbm, 138, rfl⟩
abbrev main_call6_cst : Ref sig .tc := ⟨.hbm, 139, rfl⟩
abbrev main_call6_v0 : Ref sig .tc := ⟨.hbm, 140, rfl⟩
abbrev main_call6_v1 : Ref sig .tc := ⟨.hbm, 141, rfl⟩
abbrev main_call6_cst_0 : Ref sig .tc := ⟨.hbm, 142, rfl⟩
abbrev main_call6_v2 : Ref sig .tc := ⟨.hbm, 143, rfl⟩
abbrev main_call6_v3 : Ref sig .tc := ⟨.hbm, 144, rfl⟩
abbrev main_call6_v4 : Ref sig .tc := ⟨.hbm, 145, rfl⟩
abbrev main_call6_v5 : Ref sig .tc := ⟨.hbm, 146, rfl⟩
abbrev main_call6_v6 : Ref sig .tc := ⟨.hbm, 147, rfl⟩
abbrev main_call6_v7 : Ref sig .tc := ⟨.hbm, 148, rfl⟩
abbrev main_call6_cst_1 : Ref sig .tc := ⟨.hbm, 149, rfl⟩
abbrev main_call6_v8 : Ref sig .tc := ⟨.hbm, 150, rfl⟩
abbrev main_call6_cst_2 : Ref sig .tc := ⟨.hbm, 151, rfl⟩
abbrev main_call6_v9 : Ref sig .tc := ⟨.hbm, 152, rfl⟩
abbrev main_call6_v10 : Ref sig .tc := ⟨.hbm, 153, rfl⟩
abbrev main_call6_v11 : Ref sig .tc := ⟨.hbm, 154, rfl⟩
abbrev main_call6_v12 : Ref sig .tc := ⟨.hbm, 155, rfl⟩
abbrev main_call6_cst_3 : Ref sig .tc := ⟨.hbm, 156, rfl⟩
abbrev main_call6_v13 : Ref sig .tc := ⟨.hbm, 157, rfl⟩
abbrev main_call6_cst_4 : Ref sig .tc := ⟨.hbm, 158, rfl⟩
abbrev main_call6_call0_v0 : Ref sig .tc := ⟨.hbm, 159, rfl⟩
abbrev main_call6_call0_v1 : Ref sig .tc := ⟨.hbm, 160, rfl⟩
abbrev main_v37 : Ref sig .tc := ⟨.hbm, 161, rfl⟩
abbrev main_v38 : Ref sig .tc := ⟨.hbm, 162, rfl⟩
abbrev main_v39 : Ref sig .tc := ⟨.hbm, 163, rfl⟩
abbrev main_cst_7 : Ref sig .tc := ⟨.hbm, 164, rfl⟩
abbrev main_v40 : Ref sig .tc := ⟨.hbm, 165, rfl⟩
abbrev main_v41 : Ref sig .tc := ⟨.hbm, 166, rfl⟩
abbrev main_v42 : Ref sig .tc := ⟨.hbm, 167, rfl⟩
abbrev main_v43 : Ref sig .tc := ⟨.hbm, 168, rfl⟩
abbrev main_v44 : Ref sig .tc := ⟨.hbm, 169, rfl⟩
abbrev main_v45 : Ref sig .tc := ⟨.hbm, 170, rfl⟩
abbrev main_v46 : Ref sig .tc := ⟨.hbm, 171, rfl⟩
abbrev main_v47 : Ref sig .tc := ⟨.hbm, 172, rfl⟩
abbrev main_v48 : Ref sig .tc := ⟨.hbm, 173, rfl⟩
abbrev main_v49 : Ref sig .tc := ⟨.hbm, 174, rfl⟩
abbrev main_v50 : Ref sig .tc := ⟨.hbm, 175, rfl⟩

abbrev nD : Nat := 1
abbrev τ : Topo := Topo.v7x

variable {F : FTy → Type} [FloatOps F]
-- ==== Proof.Launch.lean ====
/-
  The kernel's launch, with its result: every weakly fair execution ends with the result array as the last segment
  boundary holds it, and the arguments unchanged.
-/
module

public import proofs.«01_k».proof.Proof.Gen.KernelIdeal.Frame

@[expose] public section

set_option maxRecDepth 16384

noncomputable section

namespace Cert.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

-- needed for Lean to find the launch theorem's implicit arguments from the statement
set_option backward.isDefEq.respectTransparency.types false in
/-- Every weakly fair execution ends with every unscoped buffer of every core as the last boundary holds it. -/
theorem ends : θ_run defs (onTc (τ := τ) (main (F := F))) ⟨m, fun _ => 0, ρ⟩
    (fun r => ∀ c : Dev nD, ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => h)

/-- Every weakly fair execution ends with the result as the last boundary holds it, and the arguments unchanged. -/
theorem run : θ_run defs (onTc (τ := τ) (main (F := F))) ⟨m, fun _ => 0, ρ⟩ (fun r => ∀ c : Dev nD,
      r.2.mem ((c.tc : Thread nD τ).loc main_v0) = W5 m ρ c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨h c _ (mem_uc main_v0 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c),
     (h c _ (mem_uc main_arg11 (by decide))).trans (W5_main_arg11 m ρ c)⟩) (ends m ρ)

end Cert.Launch

end
-- ==== Proof.Tables.lean ====
/-
  The kernel's first region: one grid point whose blocks are whole arrays. It leaves four tables, each the stored value
  over the arrays as the region found them, and each entry of a table is a sum of products with a run of the weights.
-/
module

public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Tables

open Cert.KernelIdeal Cert.KernelIdeal.Gen

variable (V : (c : Dev nD) → (b : Ref sig .tc) → Buf (Elt Ideal) ((c : Thread nD τ).loc b))

/-- Every block of the first region sits at its array's start. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] :=
  (by decide +kernel : ∀ t : Fin grid0.N, _)

/-- The protocol table after the region. -/
theorem final9 (c : Dev nD) : (dat0 V c).arrAt 9 cfg0.N = k0_pay6 (V c main_call0_v1) (V c main_arg1) := by
  refine (dat0 V c).arrAt_eq_of_after_last 9 t0_0 (by decide +kernel) _ fun j => ?_
  blk_simp
  rw [after0_9]
  frame_out
  blk_point [iblk0, idx t0_0]

/-- The table of flags and direction after the region. -/
theorem final10 (c : Dev nD) : (dat0 V c).arrAt 10 cfg0.N = k0_pay7 (V c main_call0_v1) (V c main_arg2) (V c main_arg3)
    (V c main_call0_v3) (V c main_call0_v5) (V c main_call0_v6) := by
  refine (dat0 V c).arrAt_eq_of_after_last 10 t0_0 (by decide +kernel) _ fun j => ?_
  blk_simp
  rw [after0_10]
  frame_out
  blk_point [iblk0, idx t0_0]

/-- The length's row of weights after the region. -/
theorem final11 (c : Dev nD) : (dat0 V c).arrAt 11 cfg0.N = k0_pay1 (k0_pay4 (V c main_call0_v1)) (V c main_call0_v2) := by
  refine (dat0 V c).arrAt_eq_of_after_last 11 t0_0 (by decide +kernel) _ fun j => ?_
  blk_simp
  rw [after0_11]
  frame_out
  blk_point [iblk0, idx t0_0]

/-- The arrival time's row of weights after the region. -/
theorem final12 (c : Dev nD) : (dat0 V c).arrAt 12 cfg0.N = k0_pay2 (k0_pay5 (V c main_call0_v1)) (V c main_call0_v4) := by
  refine (dat0 V c).arrAt_eq_of_after_last 12 t0_0 (by decide +kernel) _ fun j => ?_
  blk_simp
  rw [after0_12]
  frame_out
  blk_point [iblk0, idx t0_0]

/-- An entry of the protocol table: the embedding's row against the first 32 weights. -/
theorem proto_at (w : FVec Ideal S136x256 .f32) (ep : FVec Ideal S256x32 .f32) (r j : Fin 256) :
    k0_pay6 (F := Ideal) w ep (ix2 r j) = ∑ k : Fin 32, ep (ix2 r k) * w (ix2 ⟨k, by omega⟩ j) := by
  pointwise [k0_pay6, k0_pay3]

/-- The share of the biases in a hidden entry. -/
def base (w : FVec Ideal S136x256 .f32) (bl bi : FVec Ideal S1x32 .f32) (bf : FVec Ideal S1x256 .f32) (j : Fin 256) : EReal :=
  (∑ k : Fin 32, bl (ix2 0 k) * w (ix2 ⟨32 + k, by omega⟩ j)) + (∑ k : Fin 32, bi (ix2 0 k) * w (ix2 ⟨96 + k, by omega⟩ j))
    + bf (ix2 0 j)

/-- An entry of the table of flags and direction: the flags' row against its weights, the biases' share, and the
    direction's row against its weights. The row number is the flags' plus 64 times the direction's. -/
theorem flagsDir_at (w : FVec Ideal S136x256 .f32) (ef : FVec Ideal S64x32 .f32) (ed : FVec Ideal S2x8 .f32)
    (bl bi : FVec Ideal S1x32 .f32) (bf : FVec Ideal S1x256 .f32) (a : Fin 64) (b : Fin 2) (r : Fin 128)
    (h : (r : ℕ) = a + 64 * b) (j : Fin 256) : k0_pay7 (F := Ideal) w ef ed bl bi bf (ix2 r j)
      = (∑ k : Fin 32, ef (ix2 a k) * w (ix2 ⟨64 + k, by omega⟩ j)) + base w bl bi bf j
        + ∑ k : Fin 8, ed (ix2 b k) * w (ix2 ⟨128 + k, by omega⟩ j) := by
  pointwise [k0_pay7, k0_pay3, k0_pay4, k0_pay5]
  split
  · have hb : b = 0 := Fin.ext (by show (b : ℕ) = 0; omega)
    subst hb
    have ha : (⟨r.val, by omega⟩ : Fin 64) = a := Fin.ext (by show (r : ℕ) = a; simp at h; omega)
    rw [ha]; rfl
  · have hb : b = 1 := Fin.ext (by show (b : ℕ) = 1; omega)
    subst hb
    have ha : (⟨r.val - 64, by omega⟩ : Fin 64) = a := Fin.ext (by show (r : ℕ) - 64 = a; simp at h; omega)
    rw [ha]; rfl

/-- An entry of the length's row. -/
theorem len_at (w : FVec Ideal S136x256 .f32) (wl : FVec Ideal S1x32 .f32) (z : Fin 1) (j : Fin 256) :
    k0_pay1 (F := Ideal) (k0_pay4 w) wl (ix2 z j) = ∑ k : Fin 32, wl (ix2 0 k) * w (ix2 ⟨32 + k, by omega⟩ j) := by
  obtain rfl : z = 0 := Subsingleton.elim _ _
  pointwise [k0_pay1, k0_pay4, k0_pay3]

/-- An entry of the arrival time's row. -/
theorem iat_at (w : FVec Ideal S136x256 .f32) (wi : FVec Ideal S1x32 .f32) (z : Fin 1) (j : Fin 256) :
    k0_pay2 (F := Ideal) (k0_pay5 w) wi (ix2 z j) = ∑ k : Fin 32, wi (ix2 0 k) * w (ix2 ⟨96 + k, by omega⟩ j) := by
  obtain rfl : z = 0 := Subsingleton.elim _ _
  pointwise [k0_pay2, k0_pay5, k0_pay3]

end Cert.Tables

end
-- ==== Proof.Words.lean ====
/-
  Words as row numbers. A feature converted to an i32 word and clipped into [0, hi] is a row number at most hi; a one-hot
  row of a clipped word picks that row of a table; the wrap of negative indices leaves a clipped word alone and the test
  for being in bounds passes it; and a gather of whole rows reads the row the word names.
-/
module

public import Idealize.ShloMosaic.Lib.Pointwise
public import Idealize.ShloMosaic.Lib.StableHlo.Predicate

@[expose] public section

set_option maxRecDepth 16384

noncomputable section

open Idealize.ShloMosaic

namespace Cert.Words

/-- A word clipped into [0, hi]. -/
def clip (hi w : BitVec 32) : BitVec 32 := IntOp.minsi hi (IntOp.maxsi 0#32 w)

/-- A clipped word, read as a natural number, is at most the bound. -/
theorem clip_le {hi : BitVec 32} (h : hi.toNat < 2 ^ 31) (w : BitVec 32) : (clip hi w).toNat ≤ hi.toNat := by
  have hz : (0#32 : BitVec 32).toInt = 0 := by decide
  have hi' : hi.toInt = hi.toNat := StableHlo.Predicate.toInt_eq_toNat_of_lt h
  have hm : 0 ≤ (IntOp.maxsi 0#32 w).toInt := by
    unfold IntOp.maxsi
    simp only [BitVec.slt, hz]
    by_cases hw : w.toInt < 0
    · simp [hw]
    · simp only [hw, decide_false, Bool.false_eq_true, ↓reduceIte]; omega
  unfold clip IntOp.minsi
  generalize IntOp.maxsi 0#32 w = v at hm
  have hv : v.toInt = v.toNat := by
    rw [BitVec.toInt_eq_toNat_cond] at hm ⊢
    have := v.isLt
    split at hm <;> split <;> omega
  simp only [BitVec.slt, hi', hv]
  by_cases hlt : (hi.toNat : Int) < v.toNat
  · simp [hlt]
  · simp only [hlt, decide_false, Bool.false_eq_true, ↓reduceIte]; omega

/-- A clipped word as a row of a table of n rows. -/
def row (n : ℕ) (hi : BitVec 32) (h : hi.toNat < 2 ^ 31 ∧ hi.toNat < n) (w : BitVec 32) : Fin n :=
  ⟨(clip hi w).toNat, lt_of_le_of_lt (clip_le h.1 w) h.2⟩

/-- One column of a one-hot row, as an extended real: 1 where the word is the column's number, 0 elsewhere. -/
theorem hot_eq (w : BitVec 32) (n : ℕ) (hn : n < 2 ^ 32) :
    (FloatOps.sitofp (F := Ideal) .f32 (BitVec.setWidth 32 (IntOp.cmpi .eq w (BitVec.ofNat 32 n))) : EReal)
      = if w.toNat = n then 1 else 0 := by
  by_cases h : w.toNat = n
  · rw [if_pos h]
    have hw : w = BitVec.ofNat 32 n := by
      apply BitVec.eq_of_toNat_eq; rw [BitVec.toNat_ofNat, h, Nat.mod_eq_of_lt hn]
    rw [StableHlo.Predicate.cmpi_eq_iff.2 hw]
    show (((BitVec.setWidth 32 1#1).toInt : ℝ) : EReal) = 1
    rw [show (BitVec.setWidth 32 1#1 : BitVec 32).toInt = 1 from by decide]; simp
  · rw [if_neg h]
    have hw : w ≠ BitVec.ofNat 32 n := by
      rintro rfl; exact h (by rw [BitVec.toNat_ofNat, Nat.mod_eq_of_lt hn])
    have hc : IntOp.cmpi .eq w (BitVec.ofNat 32 n) = 0#1 :=
      (BitVec.eq_zero_or_eq_one _).resolve_right fun e => hw (StableHlo.Predicate.cmpi_eq_iff.1 e)
    rw [hc]
    show (((BitVec.setWidth 32 0#1).toInt : ℝ) : EReal) = 0
    rw [show (BitVec.setWidth 32 0#1 : BitVec 32).toInt = 0 from by decide]; simp

/-- A one-hot row against a column of a table: the table's entry at the word's row. -/
theorem hot_sum {n : ℕ} (hn : n ≤ 2 ^ 32) (w : BitVec 32) (hw : w.toNat < n) (f : Fin n → EReal) :
    ∑ x : Fin n, (FloatOps.sitofp (F := Ideal) .f32 (BitVec.setWidth 32 (IntOp.cmpi .eq w (BitVec.ofNat 32 x.val))) : EReal) * f x
      = f ⟨w.toNat, hw⟩ := by
  rw [Finset.sum_eq_single ⟨w.toNat, hw⟩]
  · rw [hot_eq _ _ (by omega), if_pos rfl, one_mul]
  · intro x _ hx
    rw [hot_eq _ _ (by omega), if_neg fun e => hx (Fin.ext e.symm), zero_mul]
  · intro h; exact absurd (Finset.mem_univ _) h

/-- The row number of a pair, 64 rows for each value of the second: the first plus 64 times the second. -/
theorem pair_toNat (u v : BitVec 32) : (IntOp.addi (clip 63#32 u) (IntOp.muli 64#32 (clip 1#32 v))).toNat
    = (clip 63#32 u).toNat + 64 * (clip 1#32 v).toNat := by
  have h1 : (clip 63#32 u).toNat ≤ 63 := clip_le (by decide) u
  have h2 : (clip 1#32 v).toNat ≤ 1 := clip_le (by decide) v
  show ((clip 63#32 u) + 64#32 * (clip 1#32 v)).toNat = _
  rw [BitVec.toNat_add, BitVec.toNat_mul]
  simp only [BitVec.toNat_ofNat]
  omega

/-- The wrap of negative indices leaves a word below 2³¹ as it is. -/
theorem wrap_eq {w : BitVec 32} (hw : w.toNat < 2 ^ 31) (y : BitVec 32) :
    Scalar.select (IntOp.cmpi .slt w 0#32) y w = w := by
  have hc : IntOp.cmpi .slt w 0#32 = 0#1 :=
    (BitVec.eq_zero_or_eq_one _).resolve_right fun e => by
      have := (StableHlo.Predicate.slt_iff_toNat hw (by decide)).1 e
      simp at this
  rw [hc]; rfl

/-- The test for being in bounds passes a word at most the bound. -/
theorem bound_eq {w hi : BitVec 32} (hhi : hi.toNat < 2 ^ 31) (hw : w.toNat ≤ hi.toNat) :
    IntOp.andi (IntOp.cmpi .sge w 0#32) (IntOp.cmpi .sle w hi) = 1#1 := by
  rw [(StableHlo.Predicate.sge_iff_toNat (by omega) (by decide)).2 (by simp),
    (StableHlo.Predicate.sle_iff_toNat (by omega) hhi).2 hw]
  rfl

/-- A gather of whole rows of an [N, K] table by an [R, C, 1] array of row numbers, read at (a, b, k): the table at the
    row number, read signed and clamped into the table, and column k. -/
theorem gather_rows {α : Type} {N K R C : ℕ} (hN : 0 < N)
    (wf : GatherDims.WF ⟨2, ![N, K]⟩ ⟨3, ![R, C, 1]⟩ ⟨3, ![R, C, K]⟩ [2] [0] [] [0] [] 2 ![1, K])
    (x : (⟨2, ![N, K]⟩ : Shape).Idx → α) (idx : IVec ⟨3, ![R, C, 1]⟩ 32) (a : Fin R) (b : Fin C) (k : Fin K) :
    Host.gather (⟨[2], [0], [], [], [0], 2, ![1, K], wf⟩ : GatherDims ⟨2, ![N, K]⟩ ⟨3, ![R, C, 1]⟩ ⟨3, ![R, C, K]⟩) x idx (ix3 a b k)
      = x (ix2 ⟨min (idx (ix3 a b 0)).toInt.toNat (N - 1), by omega⟩ k) := by
  unfold Host.gather
  refine congrArg x (funext fun e => Fin.ext ?_)
  generalize hd : (⟨[2], [0], [], [], [0], 2, ![1, K], wf⟩ : GatherDims ⟨2, ![N, K]⟩ ⟨3, ![R, C, 1]⟩ ⟨3, ![R, C, K]⟩) = d
  match e with
  | ⟨0, _⟩ =>
    show d.start (ix3 a b k) idx 0 + d.batchCoord (ix3 a b k) 0 + d.offCoord (ix3 a b k) 0 = _
    subst hd
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun z => min (idx z).toInt.toNat (N - 1)) (funext fun b' => Fin.ext ?_)
    match b' with
    | ⟨0, _⟩ => rfl
    | ⟨1, _⟩ => rfl
    | ⟨2, _⟩ => rfl
  | ⟨1, _⟩ =>
    show d.start (ix3 a b k) idx 1 + d.batchCoord (ix3 a b k) 1 + d.offCoord (ix3 a b k) 1 = k.val
    subst hd
    rw [GatherDims.batchCoord_eq_zero _ _ _ List.not_mem_nil]
    unfold GatherDims.start
    rw [dif_neg (show (1 : Fin 2) ∉ ([0] : List (Fin 2)) from by decide)]
    simp only [Nat.zero_add]
    unfold GatherDims.offCoord
    rw [dif_pos ((GatherDims.mem_sKept _ _).2 ⟨show (1 : Fin 2) ∉ ([0] : List (Fin 2)) from by decide, List.not_mem_nil⟩)]
    rfl

/-- A feature as a word: converted to i32. -/
abbrev word (v : EReal) : BitVec 32 := FloatOps.fptosi (F := Ideal) (φ := .f32) 32 v

/-- The row number a gather uses of a clipped word: the word's own, read signed and clamped into the table. -/
theorem clamp_eq {n : ℕ} {hi : BitVec 32} (h : hi.toNat < 2 ^ 31 ∧ hi.toNat < n) (w : BitVec 32) :
    min (clip hi w).toInt.toNat (n - 1) = (row n hi h w).val := by
  have := clip_le h.1 w
  rw [StableHlo.Predicate.toInt_eq_toNat_of_lt (by omega)]
  show min ((clip hi w).toNat : ℤ).toNat (n - 1) = (clip hi w).toNat
  rw [Int.toNat_natCast]; omega

end Cert.Words

end
-- ==== Proof.Infinite.lean ====
/-
  Extended reals up to "both infinite". Two extended reals are `Alike` when they are equal or both are infinite (of either
  sign). Finite sums and products with a real respect the relation, and over it a real factor distributes over every sum,
  which it does not over the extended reals themselves (the sum of the two infinities is -∞, and a negative factor turns
  it into +∞). Nothing here is about a program.
-/
module

public import Idealize.ShloMosaic.Lib.Pointwise

@[expose] public section

noncomputable section

namespace Cert.Alike

/-- The value is +∞ or -∞. -/
def Inf (a : EReal) : Prop := a = ⊤ ∨ a = ⊥

/-- The two values are equal, or both are infinite. -/
def Alike (a b : EReal) : Prop := a = b ∨ (Inf a ∧ Inf b)

/-- +∞ is infinite. -/
theorem inf_top : Inf ⊤ := Or.inl rfl
/-- -∞ is infinite. -/
theorem inf_bot : Inf ⊥ := Or.inr rfl

/-- A real is not infinite. -/
theorem not_inf_coe (r : ℝ) : ¬ Inf (r : EReal) := fun h => h.elim (EReal.coe_ne_top r) (EReal.coe_ne_bot r)

/-- A value that is not infinite is a real. -/
theorem exists_real {a : EReal} (h : ¬ Inf a) : ∃ r : ℝ, a = (r : EReal) := by
  induction a using EReal.rec with
  | bot => exact absurd inf_bot h
  | coe r => exact ⟨r, rfl⟩
  | top => exact absurd inf_top h

/-- A value is alike to itself. -/
theorem Alike.refl (a : EReal) : Alike a a := Or.inl rfl
/-- The relation holds in both directions. -/
theorem Alike.symm {a b : EReal} (h : Alike a b) : Alike b a := h.elim (fun e => Or.inl e.symm) fun e => Or.inr ⟨e.2, e.1⟩

/-- Values alike to a third, one after the other, are alike. -/
theorem Alike.trans {a b c : EReal} (h : Alike a b) (k : Alike b c) : Alike a c := by
  rcases h with rfl | h
  · exact k
  rcases k with rfl | k
  · exact Or.inr h
  · exact Or.inr ⟨h.1, k.2⟩

/-- What is alike to an infinite value is infinite. -/
theorem Alike.inf {a b : EReal} (h : Alike a b) (ha : Inf a) : Inf b := h.elim (fun e => e ▸ ha) fun e => e.2

/-- Of two values alike, one of them real, both are that real. -/
theorem Alike.eq {a b : EReal} (h : Alike a b) (ha : ¬ Inf a) : a = b := h.elim id fun e => absurd e.1 ha

/-- An infinite summand makes the sum infinite. -/
theorem inf_add_left {a : EReal} (h : Inf a) (b : EReal) : Inf (a + b) := by
  rcases h with rfl | rfl
  · induction b using EReal.rec with
    | bot => exact Or.inr (EReal.add_bot ⊤)
    | coe r => exact Or.inl (EReal.top_add_coe r)
    | top => exact Or.inl rfl
  · exact Or.inr (EReal.bot_add b)

/-- An infinite right summand makes the sum infinite. -/
theorem inf_add_right {b : EReal} (a : EReal) (h : Inf b) : Inf (a + b) := by
  rw [add_comm]; exact inf_add_left h a

/-- What is taken away may be infinite as well. -/
theorem inf_sub_right {b : EReal} (a : EReal) (h : Inf b) : Inf (a - b) := by
  rw [sub_eq_add_neg]
  refine inf_add_right a ?_
  rcases h with rfl | rfl
  · exact Or.inr EReal.neg_top
  · exact Or.inl EReal.neg_bot

/-- An infinite value times a real other than zero is infinite. -/
theorem inf_coe_mul {x : ℝ} (hx : x ≠ 0) {a : EReal} (h : Inf a) : Inf ((x : EReal) * a) := by
  rcases lt_or_gt_of_ne hx with hn | hp
  · rcases h with rfl | rfl
    · exact Or.inr (EReal.coe_mul_top_of_neg hn)
    · exact Or.inl (EReal.coe_mul_bot_of_neg hn)
  · rcases h with rfl | rfl
    · exact Or.inl (EReal.coe_mul_top_of_pos hp)
    · exact Or.inr (EReal.coe_mul_bot_of_pos hp)

/-- The square of an infinite value is +∞. -/
theorem inf_mul_self {a : EReal} (h : Inf a) : a * a = ⊤ := by
  rcases h with rfl | rfl
  · exact EReal.top_mul_top
  · exact EReal.bot_mul_bot

/-- Sums of values alike are alike. -/
theorem Alike.add {a b c d : EReal} (h : Alike a b) (k : Alike c d) : Alike (a + c) (b + d) := by
  rcases h with rfl | h
  · rcases k with rfl | k
    · exact Alike.refl _
    · exact Or.inr ⟨inf_add_right _ k.1, inf_add_right _ k.2⟩
  · exact Or.inr ⟨inf_add_left h.1 _, inf_add_left h.2 _⟩

/-- A real times values alike gives values alike. -/
theorem Alike.coe_mul (x : ℝ) {a b : EReal} (h : Alike a b) : Alike ((x : EReal) * a) (x * b) := by
  rcases h with rfl | h
  · exact Alike.refl _
  · by_cases hx : x = 0
    · subst hx; left; simp
    · exact Or.inr ⟨inf_coe_mul hx h.1, inf_coe_mul hx h.2⟩

/-- A real factor distributes over a sum, up to `Alike`. -/
theorem coe_mul_add (x : ℝ) (a b : EReal) : Alike ((x : EReal) * (a + b)) (x * a + x * b) := by
  by_cases hx : x = 0
  · subst hx; left; simp
  by_cases ha : Inf a
  · exact Or.inr ⟨inf_coe_mul hx (inf_add_left ha b), inf_add_left (inf_coe_mul hx ha) _⟩
  by_cases hb : Inf b
  · exact Or.inr ⟨inf_coe_mul hx (inf_add_right a hb), inf_add_right _ (inf_coe_mul hx hb)⟩
  obtain ⟨r, rfl⟩ := exists_real ha
  obtain ⟨s, rfl⟩ := exists_real hb
  left
  rw [← EReal.coe_add, ← EReal.coe_mul, ← EReal.coe_mul, ← EReal.coe_mul, ← EReal.coe_add, mul_add]

/-- Finite sums of values alike, term by term, are alike. -/
theorem Alike.sum {ι : Type} (s : Finset ι) {f g : ι → EReal} (h : ∀ k, Alike (f k) (g k)) :
    Alike (∑ k ∈ s, f k) (∑ k ∈ s, g k) := by
  classical
  induction s using Finset.induction_on with
  | empty => exact Alike.refl _
  | insert a s ha ih => rw [Finset.sum_insert ha, Finset.sum_insert ha]; exact (h a).add ih

/-- A real factor goes into a finite sum, up to `Alike`. -/
theorem coe_mul_sum {ι : Type} (s : Finset ι) (x : ℝ) (f : ι → EReal) :
    Alike ((x : EReal) * ∑ k ∈ s, f k) (∑ k ∈ s, (x : EReal) * f k) := by
  classical
  induction s using Finset.induction_on with
  | empty => left; simp
  | insert a s ha ih =>
    rw [Finset.sum_insert ha, Finset.sum_insert ha]
    exact (coe_mul_add x _ _).trans ((Alike.refl _).add ih)

/-- A finite sum of reals, as an extended real. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- An infinite term makes a finite sum infinite. -/
theorem inf_sum {ι : Type} (s : Finset ι) (f : ι → EReal) {k : ι} (hk : k ∈ s) (h : Inf (f k)) : Inf (∑ i ∈ s, f i) := by
  classical
  rw [← Finset.add_sum_erase s f hk]
  exact inf_add_left h _

/-- An affine image of a real `x` (slope `l k`, offset `b k`), met by real weights: the offsets' product with the weights
    plus `x` times the slopes' product with them, up to `Alike`. -/
theorem affine_sum {ι : Type} [Fintype ι] (x : ℝ) (l b : ι → EReal) (w : ι → ℝ) :
    Alike (∑ k, ((x : EReal) * l k + b k) * (w k : EReal))
      (∑ k, b k * (w k : EReal) + (x : EReal) * ∑ k, l k * (w k : EReal)) := by
  have h1 : Alike (∑ k, ((x : EReal) * l k + b k) * (w k : EReal))
      (∑ k, (b k * (w k : EReal) + (x : EReal) * (l k * (w k : EReal)))) := by
    refine Alike.sum _ fun k => ?_
    rw [mul_comm, add_comm]
    refine (coe_mul_add (w k) _ _).trans (Or.inl ?_)
    rw [mul_comm (w k : EReal) (b k), mul_comm (w k : EReal), mul_assoc]
  refine h1.trans ?_
  rw [Finset.sum_add_distrib]
  exact (Alike.refl _).add (coe_mul_sum _ x _).symm

end Cert.Alike

end
-- ==== Proof.Norm.lean ====
/-
  The layer normalization of one row of 256 values, in the two forms that occur: multiplied by the reciprocal square root
  of the variance, and divided by its square root. Rows that are entry by entry `Alike` (equal, or both infinite) normalize
  to the same row: a row with an infinite entry has an infinite mean, every deviation infinite and the variance +∞, so both
  forms give the offset alone.
-/
module

public import proofs.«01_k».proof.Proof.Infinite

@[expose] public section

set_option maxRecDepth 16384

noncomputable section

open Idealize.ShloMosaic Cert.Alike

namespace Cert.Norm

/-- The row length as an f32 constant. -/
abbrev c256 : EReal := Ideal.ofBits .f32 0x43800000#32
/-- The small constant added to the variance. -/
abbrev eps : EReal := Ideal.ofBits .f32 0x3727C5AC#32

/-- The row's mean. -/
def mean (h : Fin 256 → EReal) : EReal := Ideal.div (∑ k, h k) c256
/-- An entry's deviation from the mean. -/
def dev (h : Fin 256 → EReal) (j : Fin 256) : EReal := h j - mean h
/-- The mean square deviation plus the small constant. -/
def spread (h : Fin 256 → EReal) : EReal := Ideal.div (∑ k, dev h k * dev h k) c256 + eps

/-- Normalization with the reciprocal square root. -/
def byRsqrt (h : Fin 256 → EReal) (g b : EReal) (j : Fin 256) : EReal := dev h j * Ideal.rsqrt (spread h) * g + b
/-- Normalization with a division by the square root. -/
def bySqrt (h : Fin 256 → EReal) (g b : EReal) (j : Fin 256) : EReal := Ideal.div (dev h j) (Ideal.sqrt (spread h)) * g + b

/-- The divisor's constant is 256. -/
theorem c256_eq : c256 = ((256 : ℝ) : EReal) := by
  simp [c256, Ideal.ofBits, Ideal.ieee, -EReal.coe_mul]; norm_num

/-- The small constant is a positive real. -/
theorem eps_pos : ∃ e : ℝ, 0 < e ∧ eps = (e : EReal) := by
  refine ⟨(2 ^ 23 + 2606508 : Nat) * (2 : ℝ) ^ ((110 : Int) - 127 - 23), by positivity, ?_⟩
  simp [eps, Ideal.ofBits, Ideal.ieee, -EReal.coe_mul]

/-- Dividing by that constant multiplies by 1/256. -/
theorem div_c256 (x : EReal) : Ideal.div x c256 = ((1 / 256 : ℝ) : EReal) * x := by
  rw [c256_eq, Ideal.div_coe (by norm_num), mul_comm]

/-- A row with an infinite entry: the spread is +∞. -/
theorem spread_inf (h : Fin 256 → EReal) {k : Fin 256} (hk : Inf (h k)) : spread h = ⊤ := by
  have hm : Inf (mean h) := by
    unfold mean; rw [div_c256]
    exact inf_coe_mul (by norm_num) (inf_sum _ _ (Finset.mem_univ k) hk)
  have hd : ∀ j, dev h j * dev h j = ⊤ := fun j => inf_mul_self (inf_sub_right _ hm)
  obtain ⟨e, he, hE⟩ := eps_pos
  have hs : ∑ j, dev h j * dev h j = ⊤ := by
    simp only [hd]
    rcases inf_sum Finset.univ (fun _ : Fin 256 => (⊤ : EReal)) (Finset.mem_univ k) inf_top with ht | hb
    · exact ht
    · exact absurd hb (by
        have : (0 : EReal) ≤ ∑ _j : Fin 256, (⊤ : EReal) := Finset.sum_nonneg fun _ _ => le_top
        intro e; rw [e] at this; exact absurd this (by simp))
  unfold spread
  rw [hs, div_c256, EReal.coe_mul_top_of_pos (by norm_num), hE, EReal.top_add_coe]

/-- A row with an infinite entry normalizes to the offset. -/
theorem byRsqrt_inf (h : Fin 256 → EReal) (g b : EReal) (j : Fin 256) {k : Fin 256} (hk : Inf (h k)) : byRsqrt h g b j = b := by
  unfold byRsqrt
  rw [spread_inf h hk, Ideal.rsqrt_top, mul_zero, zero_mul, zero_add]

/-- The same of the form that divides. -/
theorem bySqrt_inf (h : Fin 256 → EReal) (g b : EReal) (j : Fin 256) {k : Fin 256} (hk : Inf (h k)) : bySqrt h g b j = b := by
  unfold bySqrt Ideal.div
  rw [spread_inf h hk, Ideal.sqrt_top, if_neg EReal.top_ne_zero, EReal.inv_top, mul_zero, zero_mul, zero_add]

/-- On a row of reals the spread is a positive real. -/
theorem spread_real (h : Fin 256 → EReal) (hh : ∀ k, ¬ Inf (h k)) : ∃ v : ℝ, 0 < v ∧ spread h = (v : EReal) := by
  choose f hf using fun k => exists_real (hh k)
  obtain ⟨e, he, hE⟩ := eps_pos
  have hm : mean h = ((1 / 256 * ∑ k, f k : ℝ) : EReal) := by
    unfold mean; rw [div_c256]
    simp only [hf]
    rw [← coe_sum, ← EReal.coe_mul]
  have hd : ∀ j, dev h j * dev h j = (((f j - 1 / 256 * ∑ k, f k) * (f j - 1 / 256 * ∑ k, f k) : ℝ) : EReal) := fun j => by
    unfold dev; rw [hm, hf j, ← EReal.coe_sub, ← EReal.coe_mul]
  refine ⟨1 / 256 * (∑ j, (f j - 1 / 256 * ∑ k, f k) * (f j - 1 / 256 * ∑ k, f k)) + e, ?_, ?_⟩
  · have : 0 ≤ ∑ j, (f j - 1 / 256 * ∑ k, f k) * (f j - 1 / 256 * ∑ k, f k) := Finset.sum_nonneg fun j _ => mul_self_nonneg _
    positivity
  · unfold spread; rw [div_c256, hE]
    simp only [hd]
    rw [← coe_sum, ← EReal.coe_mul, ← EReal.coe_add]

/-- On a row of reals the two forms agree. -/
theorem byRsqrt_eq_bySqrt (h : Fin 256 → EReal) (g b : EReal) (j : Fin 256) (hh : ∀ k, ¬ Inf (h k)) :
    byRsqrt h g b j = bySqrt h g b j := by
  obtain ⟨v, hv, hs⟩ := spread_real h hh
  unfold byRsqrt bySqrt
  have hq : Real.sqrt v ≠ 0 := (Real.sqrt_pos.2 hv).ne'
  rw [hs, Ideal.rsqrt_coe, Ideal.sqrt_coe, if_neg (not_lt.2 hv.le), if_neg hv.ne', if_neg (not_lt.2 hv.le),
    Ideal.div_coe hq, one_div]

/-- Rows that are entry by entry alike normalize to the same row, whichever form is used. -/
theorem norm_alike (h h' : Fin 256 → EReal) (g b : EReal) (j : Fin 256) (hh : ∀ k, Alike (h k) (h' k)) :
    byRsqrt h g b j = bySqrt h' g b j := by
  by_cases hf : ∃ k, Inf (h k)
  · obtain ⟨k, hk⟩ := hf
    rw [byRsqrt_inf h g b j hk, bySqrt_inf h' g b j ((hh k).inf hk)]
  · have hn : ∀ k, ¬ Inf (h k) := fun k hk => hf ⟨k, hk⟩
    rw [← show h = h' from funext fun k => (hh k).eq (hn k)]
    exact byRsqrt_eq_bySqrt h g b j hn

end Cert.Norm

end
-- ==== Proof.MainBlock.lean ====
/-
  The kernel's second region: 800 grid points, each normalizing 1024 rows. An entry of the result is the normalization, by
  a reciprocal square root, of the row's hidden entries, which are read from the tables at the row numbers that the
  features name.
-/
module

public import proofs.«01_k».proof.Proof.Gen.KernelIdeal.Frame
public import proofs.«01_k».proof.Proof.Words
public import proofs.«01_k».proof.Proof.Norm
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MainBlock

open Cert.KernelIdeal Cert.KernelIdeal.Gen Cert.Words

/-- The row of the table of flags and direction that a pair of words names. -/
def pairRow (u v : BitVec 32) : Fin 128 :=
  ⟨(IntOp.addi (clip 63#32 u) (IntOp.muli 64#32 (clip 1#32 v))).toNat, by
    have h1 : (clip 63#32 u).toNat ≤ 63 := clip_le (by decide) u
    have h2 : (clip 1#32 v).toNat ≤ 1 := clip_le (by decide) v
    rw [pair_toNat]; omega⟩

/-- A hidden entry from a row of five features and the tables. -/
def entry (f : Fin 5 → EReal) (tp : FVec Ideal S256x256 .bf16) (tfd : FVec Ideal S128x256 .bf16) (vl vi : FVec Ideal S1x256 .f32)
    (j : Fin 256) : EReal :=
  tp (ix2 (row 256 255#32 (by decide) (word (f 0))) j) + tfd (ix2 (pairRow (word (f 2)) (word (f 4))) j)
    + f 1 * vl (ix2 0 j) + f 3 * vi (ix2 0 j)

/-- The one-hot row of the protocol against its table. -/
theorem proto_hot (x : FVec Ideal S1024x5 .f32) (tp : FVec Ideal S256x256 .bf16) (r : Fin 1024) (j : Fin 256) :
    k1_pay6 (F := Ideal) x tp (ix2 r j) = tp (ix2 (row 256 255#32 (by decide) (word (x (ix2 r 0)))) j) := by
  pointwise [k1_pay6, k1_pay2]
  exact hot_sum (n := 256) (by decide) (clip 255#32 (word (x (ix2 r 0)))) _ fun k => tp (ix2 k j)

/-- A column of the one-hot row of flags and direction. -/
theorem pair_hot (x : FVec Ideal S1024x5 .f32) (r : Fin 1024) (k : Fin 128) : k1_pay5 (F := Ideal) x (ix2 r k)
    = (FloatOps.sitofp (F := Ideal) .f32 (BitVec.setWidth 32 (IntOp.cmpi .eq (IntOp.addi (clip 63#32 (word (x (ix2 r 2))))
        (IntOp.muli 64#32 (clip 1#32 (word (x (ix2 r 4)))))) (BitVec.ofNat 32 k.val))) : EReal) := by
  pointwise [k1_pay5, k1_pay2]
  rfl

/-- The table of flags and direction as loaded is the table. -/
theorem table_at (t : FVec Ideal S128x256 .bf16) (k : Fin 128) (j : Fin 256) : k1_pay7 (F := Ideal) t (ix2 k j) = t (ix2 k j) := by
  pointwise [k1_pay7]

/-- The length's column. -/
theorem len_col (x : FVec Ideal S1024x5 .f32) (r : Fin 1024) (z : Fin 1) : k1_pay3 (F := Ideal) x (ix2 r z) = x (ix2 r 1) := by
  obtain rfl : z = 0 := Subsingleton.elim _ _
  pointwise [k1_pay3, k1_pay2]

/-- The arrival time's column. -/
theorem iat_col (x : FVec Ideal S1024x5 .f32) (r : Fin 1024) (z : Fin 1) : k1_pay4 (F := Ideal) x (ix2 r z) = x (ix2 r 3) := by
  obtain rfl : z = 0 := Subsingleton.elim _ _
  pointwise [k1_pay4, k1_pay2]

/-- A hidden entry as the stored value computes it, from its own operands. -/
def sums (a : FVec Ideal S1024x256 .f32) (hot : FVec Ideal S1024x128 .bf16) (t : FVec Ideal S128x256 .bf16)
    (l i : FVec Ideal S1024x1 .f32) (vl vi : FVec Ideal S1x256 .f32) (r : Fin 1024) (j : Fin 256) : EReal :=
  a (ix2 r j) + (∑ k : Fin 128, hot (ix2 r k) * t (ix2 k j)) + l (ix2 r 0) * vl (ix2 0 j)
    + i (ix2 r 0) * vi (ix2 0 j)

/-- The stored value at an index, over its own operands: the normalization of the row of hidden entries. -/
theorem stored_at (l i : FVec Ideal S1024x1 .f32) (hot : FVec Ideal S1024x128 .bf16) (a : FVec Ideal S1024x256 .f32)
    (t : FVec Ideal S128x256 .bf16) (vl vi g b : FVec Ideal S1x256 .f32) (r : Fin 1024) (j : Fin 256) :
    k1_pay1 (F := Ideal) l i hot a t (constant S1024x256 .f32 0x00000000#32) vl vi g b (ix2 r j)
      = Norm.byRsqrt (sums a hot t l i vl vi r) (g (ix2 0 j)) (b (ix2 0 j)) j := by
  pointwise [k1_pay1]
  rfl

/-- The stored value of a block of rows at an index. -/
theorem block_at (x : FVec Ideal S1024x5 .f32) (tp : FVec Ideal S256x256 .bf16) (tfd : FVec Ideal S128x256 .bf16)
    (vl vi g b : FVec Ideal S1x256 .f32) (r : Fin 1024) (j : Fin 256) :
    k1_pay1 (F := Ideal) (k1_pay3 x) (k1_pay4 x) (k1_pay5 x) (k1_pay6 x tp) (k1_pay7 tfd)
        (constant S1024x256 .f32 0x00000000#32) vl vi g b (ix2 r j)
      = Norm.byRsqrt (entry (fun k => x (ix2 r k)) tp tfd vl vi) (g (ix2 0 j)) (b (ix2 0 j)) j := by
  refine (stored_at _ _ _ _ _ vl vi g b r j).trans
    (congrArg (fun h => Norm.byRsqrt h (g (ix2 0 j)) (b (ix2 0 j)) j) (funext fun k => ?_))
  have hs : ∑ z : Fin 128, k1_pay5 (F := Ideal) x (ix2 r z) * k1_pay7 (F := Ideal) tfd (ix2 z k)
      = tfd (ix2 (pairRow (word (x (ix2 r 2))) (word (x (ix2 r 4)))) k) := by
    simp only [pair_hot, table_at]
    exact hot_sum (n := 128) (by decide) _ _ fun z => tfd (ix2 z k)
  unfold sums entry
  rw [proto_hot, len_col, iat_col, hs]

variable (V : (c : Dev nD) → (b : Ref sig .tc) → Buf (Elt Ideal) ((c : Thread nD τ).loc b))

/-- The features' and the result's blocks move by one row of blocks at each point; the others stay. -/
theorem idx : ∀ t : Fin cfg1.N, win1_0.index t = ![t.val, 0] ∧ win1_1.index t = ![0, 0] ∧ win1_2.index t = ![0, 0]
    ∧ win1_3.index t = ![0, 0] ∧ win1_4.index t = ![0, 0] ∧ win1_5.index t = ![0, 0] ∧ win1_6.index t = ![0, 0]
    ∧ win1_7.index t = ![t.val, 0] :=
  (by decide +kernel : ∀ t : Fin grid1.N, _)

/-- The second region's result, of its arrays. -/
def result (x : FVec Ideal S819200x5 .f32) (tp : FVec Ideal S256x256 .bf16) (tfd : FVec Ideal S128x256 .bf16)
    (vl vi g b : FVec Ideal S1x256 .f32) : FVec Ideal S819200x256 .f32 := fun i =>
  Norm.byRsqrt (entry (fun k => x (ix2 (i 0) k)) tp tfd vl vi) (g (ix2 0 (i 1))) (b (ix2 0 (i 1))) (i 1)

/-- The stored value of a block of rows at an index is the result at an index of the same column and of a row with the
    same features. -/
theorem point (x : FVec Ideal S1024x5 .f32) (X : FVec Ideal S819200x5 .f32) (tp : FVec Ideal S256x256 .bf16)
    (tfd : FVec Ideal S128x256 .bf16) (vl vi g b : FVec Ideal S1x256 .f32) (y : S1024x256.Idx) (i : S819200x256.Idx)
    (h0 : ∀ k : Fin 5, x (ix2 (y 0) k) = X (ix2 (i 0) k)) (h1 : (i 1 : ℕ) = y 1) :
    k1_pay1 (F := Ideal) (k1_pay3 x) (k1_pay4 x) (k1_pay5 x) (k1_pay6 x tp) (k1_pay7 tfd)
        (constant S1024x256 .f32 0x00000000#32) vl vi g b y = result X tp tfd vl vi g b i := by
  idx_vars y
  refine (block_at x tp tfd vl vi g b _ _).trans ?_
  obtain rfl : y1 = i 1 := Fin.ext h1.symm
  rw [show (fun k => x (ix2 y0 k)) = fun k => X (ix2 (i 0) k) from funext h0]
  rfl

/-- The protocol table's block is its array. -/
theorem blk1 (c : Dev nD) (t : Fin cfg1.N) : iblk1 V c 1 t = V c main_call0_v7_0 := by blk_ext! [iblk1, idx t]

/-- The table of flags and direction's block is its array. -/
theorem blk2 (c : Dev nD) (t : Fin cfg1.N) : iblk1 V c 2 t = V c main_call0_v7_1 := by blk_ext! [iblk1, idx t]

/-- The length's row's block is its array. -/
theorem blk3 (c : Dev nD) (t : Fin cfg1.N) : iblk1 V c 3 t = V c main_call0_v7_2 := by blk_ext! [iblk1, idx t]

/-- The arrival time's row's block is its array. -/
theorem blk4 (c : Dev nD) (t : Fin cfg1.N) : iblk1 V c 4 t = V c main_call0_v7_3 := by blk_ext! [iblk1, idx t]

/-- The scale's block is its array. -/
theorem blk5 (c : Dev nD) (t : Fin cfg1.N) : iblk1 V c 5 t = V c main_call0_v8 := by blk_ext! [iblk1, idx t]

/-- The shift's block is its array. -/
theorem blk6 (c : Dev nD) (t : Fin cfg1.N) : iblk1 V c 6 t = V c main_call0_v9 := by blk_ext! [iblk1, idx t]

/-- The second region leaves the result of its arrays. -/
theorem final7 (c : Dev nD) : (dat1 V c).arrAt 7 cfg1.N = result (V c main_call0_v0) (V c main_call0_v7_0) (V c main_call0_v7_1)
    (V c main_call0_v7_2) (V c main_call0_v7_3) (V c main_call0_v8) (V c main_call0_v9) := by
  refine (dat1 V c).arrAt_eq_of_covers 7 _ (by decide +kernel) fun t _ y => ?_
  blk_simp
  rw [after1_7]
  frame_out
  rw [blk1, blk2, blk3, blk4, blk5, blk6]
  refine point _ _ _ _ _ _ _ _ y _ (fun k => ?_) ?_
  · blk_point [iblk1, idx t]
  · blk_simp [idx t]

end Cert.MainBlock

end
-- ==== Proof.Boundary.lean ====
/-
  The arrays between the items of the kernel's program, each read back to the launch's arguments: the reshaped features,
  the transposed weights, the reshaped biases, the four tables, and the reshaped result.
-/
module

public import proofs.«01_k».proof.Proof.Tables
public import proofs.«01_k».proof.Proof.MainBlock

@[expose] public section

set_option maxRecDepth 16384

noncomputable section

open Idealize.ShloMosaic Idealize.ShloMosaic.TcCoe Idealize.SL.Sem

namespace Cert.Boundary

open Cert.KernelIdeal Cert.KernelIdeal.Gen

variable (m : (ℓ : Loc nD τ sig) → Buf (Elt Ideal) ℓ) (ρ : Dev nD → PrngReg) (c : Dev nD)

/-- The features as rows of a matrix, at the first region's entry. -/
theorem v0_1 : W1 m ρ c main_call0_v0 = shapeCast S819200x5 (m ((c.tc : Thread nD τ).loc main_arg0)) shapeCasts_S4096x200x5_S819200x5 := by
  after_results; try rfl

/-- The fusion weights transposed. -/
theorem v1_1 : W1 m ρ c main_call0_v1 = transpose S136x256 [1, 0] (m ((c.tc : Thread nD τ).loc main_arg8)) transposes_S256x136_S136x256_1_0 := by
  after_results; try rfl

/-- The length weights transposed. -/
theorem v2_1 : W1 m ρ c main_call0_v2 = transpose S1x32 [1, 0] (m ((c.tc : Thread nD τ).loc main_arg4)) transposes_S32x1_S1x32_1_0 := by
  after_results; try rfl

/-- The length bias as a row. -/
theorem v3_1 : W1 m ρ c main_call0_v3 = shapeCast S1x32 (m ((c.tc : Thread nD τ).loc main_arg5)) shapeCasts_S32_S1x32 := by
  after_results; try rfl

/-- The arrival time's weights transposed. -/
theorem v4_1 : W1 m ρ c main_call0_v4 = transpose S1x32 [1, 0] (m ((c.tc : Thread nD τ).loc main_arg6)) transposes_S32x1_S1x32_1_0 := by
  after_results; try rfl

/-- The arrival time's bias as a row. -/
theorem v5_1 : W1 m ρ c main_call0_v5 = shapeCast S1x32 (m ((c.tc : Thread nD τ).loc main_arg7)) shapeCasts_S32_S1x32 := by
  after_results; try rfl

/-- The fusion bias as a row. -/
theorem v6_1 : W1 m ρ c main_call0_v6 = shapeCast S1x256 (m ((c.tc : Thread nD τ).loc main_arg9)) shapeCasts_S256_S1x256 := by
  after_results; try rfl

/-- The scale as a row, at the second region's entry. -/
theorem v8_3 : W3 m ρ c main_call0_v8 = shapeCast S1x256 (W2 m ρ c main_arg10) shapeCasts_S256_S1x256 := by
  after_results; try rfl

/-- The shift as a row, at the second region's entry. -/
theorem v9_3 : W3 m ρ c main_call0_v9 = shapeCast S1x256 (W2 m ρ c main_arg11) shapeCasts_S256_S1x256 := by
  after_results; try rfl

/-- The result in the shape of the batch. -/
theorem v0_5 : W5 m ρ c main_v0 = shapeCast S4096x200x256 (W4 m ρ c main_call0_v10) shapeCasts_S819200x256_S4096x200x256 := by
  after_results; try rfl

/-- The features reach the second region as they entered the first. -/
theorem v0_3 : W3 m ρ c main_call0_v0 = W1 m ρ c main_call0_v0 :=
  (W3_of m ρ c main_call0_v0 (by decide +kernel)).trans (W2_of m ρ c main_call0_v0 (by decide +kernel))

/-- The protocol table at the second region's entry. -/
theorem v7_0_3 : W3 m ρ c main_call0_v7_0 = k0_pay6 (W1 m ρ c main_call0_v1) (m ((c.tc : Thread nD τ).loc main_arg1)) := by
  refine (W3_of m ρ c main_call0_v7_0 (by decide +kernel)).trans ((W2_arr m ρ c 9).trans ((Tables.final9 (V1 m ρ) c).trans ?_))
  rw [show V1 m ρ c main_arg1 = m ((c.tc : Thread nD τ).loc main_arg1) from W1_args m ρ c main_arg1 (by decide)]

/-- The table of flags and direction at the second region's entry. -/
theorem v7_1_3 : W3 m ρ c main_call0_v7_1 = k0_pay7 (W1 m ρ c main_call0_v1) (m ((c.tc : Thread nD τ).loc main_arg2))
    (m ((c.tc : Thread nD τ).loc main_arg3)) (W1 m ρ c main_call0_v3) (W1 m ρ c main_call0_v5) (W1 m ρ c main_call0_v6) := by
  refine (W3_of m ρ c main_call0_v7_1 (by decide +kernel)).trans ((W2_arr m ρ c 10).trans ((Tables.final10 (V1 m ρ) c).trans ?_))
  rw [show V1 m ρ c main_arg2 = m ((c.tc : Thread nD τ).loc main_arg2) from W1_args m ρ c main_arg2 (by decide),
    show V1 m ρ c main_arg3 = m ((c.tc : Thread nD τ).loc main_arg3) from W1_args m ρ c main_arg3 (by decide)]

/-- The length's row at the second region's entry. -/
theorem v7_2_3 : W3 m ρ c main_call0_v7_2 = k0_pay1 (k0_pay4 (W1 m ρ c main_call0_v1)) (W1 m ρ c main_call0_v2) :=
  (W3_of m ρ c main_call0_v7_2 (by decide +kernel)).trans ((W2_arr m ρ c 11).trans (Tables.final11 (V1 m ρ) c))

/-- The arrival time's row at the second region's entry. -/
theorem v7_3_3 : W3 m ρ c main_call0_v7_3 = k0_pay2 (k0_pay5 (W1 m ρ c main_call0_v1)) (W1 m ρ c main_call0_v4) :=
  (W3_of m ρ c main_call0_v7_3 (by decide +kernel)).trans ((W2_arr m ρ c 12).trans (Tables.final12 (V1 m ρ) c))

/-- The scale at the second region's entry, of the argument. -/
theorem g_3 : W3 m ρ c main_call0_v8 = shapeCast S1x256 (m ((c.tc : Thread nD τ).loc main_arg10)) shapeCasts_S256_S1x256 := by
  rw [v8_3, show W2 m ρ c main_arg10 = m ((c.tc : Thread nD τ).loc main_arg10) from W2_args m ρ c main_arg10 (by decide)]

/-- The shift at the second region's entry, of the argument. -/
theorem b_3 : W3 m ρ c main_call0_v9 = shapeCast S1x256 (m ((c.tc : Thread nD τ).loc main_arg11)) shapeCasts_S256_S1x256 := by
  rw [v9_3, show W2 m ρ c main_arg11 = m ((c.tc : Thread nD τ).loc main_arg11) from W2_args m ρ c main_arg11 (by decide)]

/-- The second region's result at its exit. -/
theorem v10_4 : W4 m ρ c main_call0_v10 = MainBlock.result (W3 m ρ c main_call0_v0) (W3 m ρ c main_call0_v7_0)
    (W3 m ρ c main_call0_v7_1) (W3 m ρ c main_call0_v7_2) (W3 m ρ c main_call0_v7_3) (W3 m ρ c main_call0_v8)
    (W3 m ρ c main_call0_v9) :=
  (W4_arr m ρ c 7).trans (MainBlock.final7 (V3 m ρ) c)

end Cert.Boundary

end
-- ==== Proof.Hidden.lean ====
/-
  One entry of the hidden layer, from one row of the fusion weights. The tabled form adds products with the tables first:
  the protocol row, the row for flags and direction (which holds the biases' share too), and the two scalar features times
  their columns of weights. The direct form embeds first and multiplies the whole row of 136 by the weights. They are
  alike when the two scalar features are real and so are the weights that the two scalar embeddings meet.
-/
module

public import proofs.«01_k».proof.Proof.Infinite

@[expose] public section

noncomputable section

namespace Cert.Hidden

open Cert.Alike

/-- The hidden entry from the tables: protocol row, then the flags row with the biases' share and the direction row, then
    each scalar feature times its weights' sum. -/
def tabled (w : Fin 136 → EReal) (p f : Fin 32 → EReal) (d : Fin 8 → EReal) (wl bl wi bi : Fin 32 → EReal)
    (x y bf : EReal) : EReal :=
  (∑ k, p k * w ⟨k, by omega⟩)
    + ((∑ k, f k * w ⟨64 + k, by omega⟩)
        + ((∑ k, bl k * w ⟨32 + k, by omega⟩) + (∑ k, bi k * w ⟨96 + k, by omega⟩) + bf)
        + ∑ k, d k * w ⟨128 + k, by omega⟩)
    + x * (∑ k, wl k * w ⟨32 + k, by omega⟩) + y * (∑ k, wi k * w ⟨96 + k, by omega⟩)

/-- The hidden entry from the embedded row: five runs of the row against the weights, and the bias. -/
def direct (w : Fin 136 → EReal) (p f : Fin 32 → EReal) (d : Fin 8 → EReal) (wl bl wi bi : Fin 32 → EReal)
    (x y bf : EReal) : EReal :=
  (∑ k, p k * w ⟨k, by omega⟩)
    + (∑ k, (x * wl k + bl k) * w ⟨32 + k, by omega⟩)
    + (∑ k, f k * w ⟨64 + k, by omega⟩)
    + (∑ k, (y * wi k + bi k) * w ⟨96 + k, by omega⟩)
    + (∑ k, d k * w ⟨128 + k, by omega⟩) + bf

/-- The two forms of a hidden entry are alike. -/
theorem alike (w : Fin 136 → EReal) (p f : Fin 32 → EReal) (d : Fin 8 → EReal) (wl bl wi bi : Fin 32 → EReal)
    (x y bf : EReal) (hx : ¬ Inf x) (hy : ¬ Inf y) (hl : ∀ k : Fin 32, ¬ Inf (w ⟨32 + k, by omega⟩))
    (hi : ∀ k : Fin 32, ¬ Inf (w ⟨96 + k, by omega⟩)) :
    Alike (tabled w p f d wl bl wi bi x y bf) (direct w p f d wl bl wi bi x y bf) := by
  obtain ⟨x', rfl⟩ := exists_real hx
  obtain ⟨y', rfl⟩ := exists_real hy
  choose l hl' using fun k => exists_real (hl k)
  choose i hi' using fun k => exists_real (hi k)
  have hL := affine_sum x' wl bl l
  have hI := affine_sum y' wi bi i
  simp only [← hl', ← hi'] at hL hI
  unfold tabled direct
  refine Alike.symm ?_
  refine Alike.add (Alike.add (Alike.add (Alike.add (Alike.add (Alike.refl _) hL) (Alike.refl _)) hI) (Alike.refl _))
    (Alike.refl _) |>.trans (Or.inl ?_)
  ac_rfl

end Cert.Hidden

end
-- ==== Proof.KernelRow.lean ====
/-
  The kernel's result, entry by entry, of the launch's arguments: the normalization, by a reciprocal square root, of the
  row of hidden entries in their tabled form.
-/
module

public import proofs.«01_k».proof.Proof.Boundary
public import proofs.«01_k».proof.Proof.Hidden

@[expose] public section

set_option maxRecDepth 16384

noncomputable section

open Idealize.ShloMosaic Idealize.ShloMosaic.TcCoe Idealize.SL.Sem

namespace Cert.KernelRow

open Cert.KernelIdeal Cert.KernelIdeal.Gen Cert.Words Cert.MainBlock

/-- The kernel's stages composed. -/
def whole (x : FVec Ideal S4096x200x5 .f32) (ep : FVec Ideal S256x32 .f32) (ef : FVec Ideal S64x32 .f32) (ed : FVec Ideal S2x8 .f32)
    (wl : FVec Ideal S32x1 .f32) (bl : FVec Ideal S32 .f32) (wi : FVec Ideal S32x1 .f32) (bi : FVec Ideal S32 .f32)
    (w : FVec Ideal S256x136 .f32) (bf g u : FVec Ideal S256 .f32) : FVec Ideal S4096x200x256 .f32 :=
  let wt : FVec Ideal S136x256 .f32 := transpose S136x256 [1, 0] w transposes_S256x136_S136x256_1_0
  shapeCast S4096x200x256 (result (shapeCast S819200x5 x shapeCasts_S4096x200x5_S819200x5) (k0_pay6 wt ep)
      (k0_pay7 wt ef ed (shapeCast S1x32 bl shapeCasts_S32_S1x32) (shapeCast S1x32 bi shapeCasts_S32_S1x32)
        (shapeCast S1x256 bf shapeCasts_S256_S1x256))
      (k0_pay1 (k0_pay4 wt) (transpose S1x32 [1, 0] wl transposes_S32x1_S1x32_1_0))
      (k0_pay2 (k0_pay5 wt) (transpose S1x32 [1, 0] wi transposes_S32x1_S1x32_1_0))
      (shapeCast S1x256 g shapeCasts_S256_S1x256) (shapeCast S1x256 u shapeCasts_S256_S1x256))
    shapeCasts_S819200x256_S4096x200x256

/-- The kernel's result is the stages composed, of the launch's arguments. -/
theorem result_eq (m : (ℓ : Loc nD τ sig) → Buf (Elt Ideal) ℓ) (ρ : Dev nD → PrngReg) (c : Dev nD) :
    W5 m ρ c main_v0 = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) := by
  rw [Boundary.v0_5, Boundary.v10_4, Boundary.v0_3, Boundary.v7_0_3, Boundary.v7_1_3, Boundary.v7_2_3, Boundary.v7_3_3,
    Boundary.g_3, Boundary.b_3, Boundary.v0_1, Boundary.v1_1, Boundary.v2_1, Boundary.v3_1, Boundary.v4_1, Boundary.v5_1,
    Boundary.v6_1]
  rfl

/-- The row of the matrix that row b of batch a is. -/
def flat (a : Fin 4096) (b : Fin 200) : Fin 819200 := ⟨a * 200 + b, by omega⟩

/-- The result in the shape of the batch is read at the flat row. -/
theorem unflat_at (r : FVec Ideal S819200x256 .f32) (a : Fin 4096) (b : Fin 200) (j : Fin 256) :
    shapeCast S4096x200x256 r shapeCasts_S819200x256_S4096x200x256 (ix3 a b j) = r (ix2 (flat a b) j) := by
  pointwise [flat]

/-- The features as rows of a matrix are read at the batch and its row. -/
theorem flat_at (x : FVec Ideal S4096x200x5 .f32) (a : Fin 4096) (b : Fin 200) (k : Fin 5) :
    shapeCast S819200x5 x shapeCasts_S4096x200x5_S819200x5 (ix2 (flat a b) k) = x (ix3 a b k) := by
  pointwise [flat]

/-- A vector of 256 as a row. -/
theorem row256_at (v : FVec Ideal S256 .f32) (j : Fin 256) : shapeCast S1x256 v shapeCasts_S256_S1x256 (ix2 0 j) = v (ix1 j) := by
  pointwise []

/-- The row of hidden entries of the kernel, in their tabled form, of the arguments. -/
def row (x : FVec Ideal S4096x200x5 .f32) (ep : FVec Ideal S256x32 .f32) (ef : FVec Ideal S64x32 .f32) (ed : FVec Ideal S2x8 .f32)
    (wl : FVec Ideal S32x1 .f32) (bl : FVec Ideal S32 .f32) (wi : FVec Ideal S32x1 .f32) (bi : FVec Ideal S32 .f32)
    (w : FVec Ideal S256x136 .f32) (bf : FVec Ideal S256 .f32) (a : Fin 4096) (b : Fin 200) (j : Fin 256) : EReal :=
  Hidden.tabled (fun k => w (ix2 j k)) (fun k => ep (ix2 (Words.row 256 255#32 (by decide) (word (x (ix3 a b 0)))) k))
    (fun k => ef (ix2 (Words.row 64 63#32 (by decide) (word (x (ix3 a b 2)))) k))
    (fun k => ed (ix2 (Words.row 2 1#32 (by decide) (word (x (ix3 a b 4)))) k))
    (fun k => wl (ix2 k 0)) (fun k => bl (ix1 k)) (fun k => wi (ix2 k 0)) (fun k => bi (ix1 k)) (x (ix3 a b 1)) (x (ix3 a b 3))
    (bf (ix1 j))

/-- An entry of the kernel's result: the normalization, by a reciprocal square root, of the row of hidden entries. -/
theorem whole_apply (x : FVec Ideal S4096x200x5 .f32) (ep : FVec Ideal S256x32 .f32) (ef : FVec Ideal S64x32 .f32)
    (ed : FVec Ideal S2x8 .f32) (wl : FVec Ideal S32x1 .f32) (bl : FVec Ideal S32 .f32) (wi : FVec Ideal S32x1 .f32)
    (bi : FVec Ideal S32 .f32) (w : FVec Ideal S256x136 .f32) (bf g u : FVec Ideal S256 .f32) (a : Fin 4096) (b : Fin 200)
    (j : Fin 256) : whole x ep ef ed wl bl wi bi w bf g u (ix3 a b j)
      = Norm.byRsqrt (row x ep ef ed wl bl wi bi w bf a b) (g (ix1 j)) (u (ix1 j)) j := by
  unfold whole
  refine (unflat_at _ a b j).trans ?_
  show Norm.byRsqrt (entry (fun k => shapeCast S819200x5 x shapeCasts_S4096x200x5_S819200x5 (ix2 (flat a b) k)) _ _ _ _)
    (shapeCast S1x256 g shapeCasts_S256_S1x256 (ix2 0 j)) (shapeCast S1x256 u shapeCasts_S256_S1x256 (ix2 0 j)) j = _
  rw [row256_at, row256_at]
  refine congrArg (fun h => Norm.byRsqrt h (g (ix1 j)) (u (ix1 j)) j) (funext fun k => ?_)
  simp only [flat_at]
  unfold entry
  rw [Tables.proto_at, Tables.len_at, Tables.iat_at,
    Tables.flagsDir_at _ _ _ _ _ _ (Words.row 64 63#32 (by decide) (word (x (ix3 a b 2))))
      (Words.row 2 1#32 (by decide) (word (x (ix3 a b 4)))) _ (pair_toNat _ _)]
  unfold Tables.base row Hidden.tabled
  pointwise []

end Cert.KernelRow

end
-- ==== Proof.Reference.lean ====
/-
  The reference, entry by entry. Its result is cut into named stages: the three row numbers, the three embeddings that
  read a table, the two embeddings of a scalar feature, the hidden layer, and the normalization. Each stage is read at an
  index; together they give an entry of the result as the normalization, by a square root and a division, of the row of
  hidden entries in their direct form.
-/
module

public import proofs.«01_k».proof.Proof.Gen.ReferenceIdeal.Run
public import proofs.«01_k».proof.Proof.Words
public import proofs.«01_k».proof.Proof.Hidden
public import proofs.«01_k».proof.Proof.Norm
public import Idealize.ShloMosaic.Lib.ReduceAll

@[expose] public section

set_option maxRecDepth 16384

noncomputable section

open Idealize.ShloMosaic Idealize.ShloMosaic.TcCoe Idealize.SL.Sem

namespace Cert.Reference

open Cert.ReferenceIdeal Cert.ReferenceIdeal.Gen

/-- Column q of the features, one per row of the batch. -/
def column (q : Fin 3 → ℕ) (h : S4096x200x5.Slices q S4096x200x1) (x : FVec Ideal S4096x200x5 .f32) : FVec Ideal S4096x200 .f32 :=
  shapeCast _ (extractStridedSlice S4096x200x1 q x h) shapeCasts_S4096x200x1_S4096x200

/-- A column of features as row numbers: converted to i32 and clipped into [0, hi]. -/
def rows (hi : BitVec 32) (v : FVec Ideal S4096x200 .f32) : IVec S4096x200 32 :=
  minsi (broadcastInDim S4096x200 ![] bcast_S_S4096x200 (id (constantI S_ 32 hi)))
    (maxsi (broadcastInDim S4096x200 ![] bcast_S_S4096x200 (id (constantI S_ 32 0#32))) (fptosi 32 v))

/-- Row numbers with the negative ones wrapped by n, with a last axis of one. -/
def wrapped (n : BitVec 32) (i : IVec S4096x200 32) : IVec S4096x200x1 32 :=
  broadcastInDim S4096x200x1 ![0, 1] bcast_S4096x200_S4096x200x1_0_1
    (select (cmpi .slt i (broadcastInDim S4096x200 ![] bcast_S_S4096x200 (constantI S_ 32 0#32)))
      (addi i (broadcastInDim S4096x200 ![] bcast_S_S4096x200 (constantI S_ 32 n))) i)

/-- Where a row number is within [0, hi]. -/
def within (hi : BitVec 32) (w : IVec S4096x200x1 32) : IVec S4096x200 1 :=
  Host.reduce IntOp.andi
    (andi (cmpi .sge w (broadcastInDim S4096x200x1 ![] bcast_S_S4096x200x1 (constantI S_ 32 0#32)))
      (cmpi .sle w (broadcastInDim S4096x200x1 ![0, 1, 2] bcast_S1x1x1_S4096x200x1_0_1_2
        (broadcastInDim S1x1x1 ![2] bcast_S1_S1x1x1_2 (constantI S1 32 hi)))))
    (constantI S_ 1 1#1) reducesTo_S4096x200x1_S4096x200_d2 h_S_

/-- The protocol embedding. -/
def protoE (x : FVec Ideal S4096x200x5 .f32) (t : FVec Ideal S256x32 .f32) : FVec Ideal S4096x200x32 .f32 :=
  let w := wrapped 256#32 (rows 255#32 (column ![0, 0, 0] slices_S4096x200x5_S4096x200x1_0_0_0 x))
  select (broadcastInDim S4096x200x32 ![0, 1] bcast_S4096x200_S4096x200x32_0_1 (within 255#32 w))
    (Host.gather gather_S256x32_S4096x200x1_S4096x200x32_2_0_n_n_0_2_132 t w)
    (broadcastInDim S4096x200x32 ![] bcast_S_S4096x200x32 (constant S_ .f32 0x7FC00000#32))

/-- The flags embedding. -/
def flagsE (x : FVec Ideal S4096x200x5 .f32) (t : FVec Ideal S64x32 .f32) : FVec Ideal S4096x200x32 .f32 :=
  let w := wrapped 64#32 (rows 63#32 (column ![0, 0, 2] slices_S4096x200x5_S4096x200x1_0_0_2 x))
  select (broadcastInDim S4096x200x32 ![0, 1] bcast_S4096x200_S4096x200x32_0_1 (within 63#32 w))
    (Host.gather gather_S64x32_S4096x200x1_S4096x200x32_2_0_n_n_0_2_132 t w)
    (broadcastInDim S4096x200x32 ![] bcast_S_S4096x200x32 (constant S_ .f32 0x7FC00000#32))

/-- The direction embedding. -/
def dirE (x : FVec Ideal S4096x200x5 .f32) (t : FVec Ideal S2x8 .f32) : FVec Ideal S4096x200x8 .f32 :=
  let w := wrapped 2#32 (rows 1#32 (column ![0, 0, 4] slices_S4096x200x5_S4096x200x1_0_0_4 x))
  select (broadcastInDim S4096x200x8 ![0, 1] bcast_S4096x200_S4096x200x8_0_1 (within 1#32 w))
    (Host.gather gather_S2x8_S4096x200x1_S4096x200x8_2_0_n_n_0_2_18 t w)
    (broadcastInDim S4096x200x8 ![] bcast_S_S4096x200x8 (constant S_ .f32 0x7FC00000#32))

/-- The embedding of a scalar feature: the feature times the weights, and the bias. -/
def scalarE (q : Fin 3 → ℕ) (h : S4096x200x5.Slices q S4096x200x1) (x : FVec Ideal S4096x200x5 .f32)
    (w : FVec Ideal S32x1 .f32) (b : FVec Ideal S32 .f32) : FVec Ideal S4096x200x32 .f32 :=
  addf (Host.dotGeneral dot_S4096x200x1_S1x32_S4096x200x32_2_0_01_1_n_n none (extractStridedSlice S4096x200x1 q x h)
      (transpose S1x32 [1, 0] w transposes_S32x1_S1x32_1_0))
    (broadcastInDim S4096x200x32 ![0, 1, 2] bcast_S1x1x32_S4096x200x32_0_1_2 (broadcastInDim S1x1x32 ![2] bcast_S32_S1x1x32_2 b))

/-- The hidden layer of five embeddings. -/
def hidden (p l f i : FVec Ideal S4096x200x32 .f32) (d : FVec Ideal S4096x200x8 .f32) (w : FVec Ideal S256x136 .f32)
    (b : FVec Ideal S256 .f32) : FVec Ideal S4096x200x256 .f32 :=
  addf (Host.dotGeneral dot_S4096x200x136_S136x256_S4096x200x256_2_0_01_1_n_n none
      (concatenate S4096x200x136 2 [⟨S4096x200x32, p⟩, ⟨S4096x200x32, l⟩, ⟨S4096x200x32, f⟩, ⟨S4096x200x32, i⟩, ⟨S4096x200x8, d⟩]
        concatenates_S4096x200x32_S4096x200x32_S4096x200x32_S4096x200x32_S4096x200x8_S4096x200x136_d2)
      (transpose S136x256 [1, 0] w transposes_S256x136_S136x256_1_0))
    (broadcastInDim S4096x200x256 ![0, 1, 2] bcast_S1x1x256_S4096x200x256_0_1_2 (broadcastInDim S1x1x256 ![2] bcast_S256_S1x1x256_2 b))

/-- The means of the rows. -/
def means (h : FVec Ideal S4096x200x256 .f32) : FVec Ideal S4096x200x1 .f32 :=
  Host.divf (broadcastInDim S4096x200x1 ![0, 1] bcast_S4096x200_S4096x200x1_0_1
      (Host.reduceAdd h (constant S_ .f32 0x00000000#32) reducesTo_S4096x200x256_S4096x200_d2 h_S_))
    (broadcastInDim S4096x200x1 ![] bcast_S_S4096x200x1 (constant S_ .f32 0x43800000#32))

/-- The deviations of the entries from their row's mean. -/
def devs (h : FVec Ideal S4096x200x256 .f32) : FVec Ideal S4096x200x256 .f32 :=
  subf h (broadcastInDim S4096x200x256 ![0, 1, 2] bcast_S4096x200x1_S4096x200x256_0_1_2 (means h))

/-- The number of entries the squares are averaged over: 256, with nothing taken off. -/
def count : FVec Ideal S_ .f32 := subf (constant S_ .f32 0x43800000#32) (sitofp .f32 (constantI S_ 32 0#32))

/-- The variances of the rows. -/
def vars (h : FVec Ideal S4096x200x256 .f32) : FVec Ideal S4096x200x1 .f32 :=
  select (broadcastInDim S4096x200x1 ![] bcast_S_S4096x200x1 (cmpf .ogt count (constant S_ .f32 0x00000000#32)))
    (Host.divf (broadcastInDim S4096x200x1 ![0, 1] bcast_S4096x200_S4096x200x1_0_1
        (Host.reduceAdd (mulf (devs h) (devs h)) (constant S_ .f32 0x00000000#32) reducesTo_S4096x200x256_S4096x200_d2 h_S_))
      (broadcastInDim S4096x200x1 ![] bcast_S_S4096x200x1 count))
    (broadcastInDim S4096x200x1 ![] bcast_S_S4096x200x1 (id (constant S_ .f32 0x7FC00000#32)))

/-- The normalization of the rows, scaled and shifted. -/
def normed (h : FVec Ideal S4096x200x256 .f32) (g b : FVec Ideal S256 .f32) : FVec Ideal S4096x200x256 .f32 :=
  addf (mulf (Host.divf (devs h) (broadcastInDim S4096x200x256 ![0, 1, 2] bcast_S4096x200x1_S4096x200x256_0_1_2
        (Host.sqrt (addf (vars h) (broadcastInDim S4096x200x1 ![] bcast_S_S4096x200x1 (constant S_ .f32 0x3727C5AC#32))))))
      (broadcastInDim S4096x200x256 ![0, 1, 2] bcast_S1x1x256_S4096x200x256_0_1_2 (broadcastInDim S1x1x256 ![2] bcast_S256_S1x1x256_2 g)))
    (broadcastInDim S4096x200x256 ![0, 1, 2] bcast_S1x1x256_S4096x200x256_0_1_2 (broadcastInDim S1x1x256 ![2] bcast_S256_S1x1x256_2 b))

/-- The stages composed. -/
def whole (x : FVec Ideal S4096x200x5 .f32) (ep : FVec Ideal S256x32 .f32) (ef : FVec Ideal S64x32 .f32) (ed : FVec Ideal S2x8 .f32)
    (wl : FVec Ideal S32x1 .f32) (bl : FVec Ideal S32 .f32) (wi : FVec Ideal S32x1 .f32) (bi : FVec Ideal S32 .f32)
    (w : FVec Ideal S256x136 .f32) (bf g b : FVec Ideal S256 .f32) : FVec Ideal S4096x200x256 .f32 :=
  normed (hidden (protoE x ep) (scalarE ![0, 0, 1] slices_S4096x200x5_S4096x200x1_0_0_1 x wl bl) (flagsE x ef)
    (scalarE ![0, 0, 3] slices_S4096x200x5_S4096x200x1_0_0_3 x wi bi) (dirE x ed) w bf) g b

/-- The reference's result is the stages composed, of the launch's arguments. -/
theorem result_eq (m : (ℓ : Loc nD τ sig) → Buf (Elt Ideal) ℓ) (c : Dev nD) :
    Value.res_out0 m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) := rfl

end Cert.Reference

end
-- ==== Proof.ReferenceRow.lean ====
/-
  The reference's stages read at an index, and with them an entry of its result.
-/
module

public import proofs.«01_k».proof.Proof.Words
public import proofs.«01_k».proof.Proof.Reference

@[expose] public section

set_option maxRecDepth 16384

noncomputable section

open Idealize.ShloMosaic Idealize.ShloMosaic.TcCoe Idealize.SL.Sem

namespace Cert.Reference

open Cert.ReferenceIdeal Cert.ReferenceIdeal.Gen Cert.Words

/-- A row number: the column's feature as a word, clipped. -/
theorem rows_apply (hi : BitVec 32) (v : FVec Ideal S4096x200 .f32) (a : Fin 4096) (b : Fin 200) :
    rows hi v (ix2 a b) = clip hi (word (v (ix2 a b))) := by
  pointwise [rows]
  rfl

/-- The wrap leaves a row number as it is. -/
theorem wrapped_apply (n : BitVec 32) {hi : BitVec 32} (h : hi.toNat < 2 ^ 31) (v : FVec Ideal S4096x200 .f32) (a : Fin 4096)
    (b : Fin 200) (z : Fin 1) : wrapped n (rows hi v) (ix3 a b z) = clip hi (word (v (ix2 a b))) := by
  have e : wrapped n (rows hi v) (ix3 a b z)
      = Scalar.select (IntOp.cmpi .slt (rows hi v (ix2 a b)) 0#32) (IntOp.addi (rows hi v (ix2 a b)) n) (rows hi v (ix2 a b)) := by
    pointwise [wrapped]
  rw [e, rows_apply]
  exact wrap_eq (lt_of_le_of_lt (clip_le h _) h) _

/-- Every row number is within bounds. -/
theorem within_apply (n : BitVec 32) {hi : BitVec 32} (h : hi.toNat < 2 ^ 31) (v : FVec Ideal S4096x200 .f32) (a : Fin 4096)
    (b : Fin 200) : within hi (wrapped n (rows hi v)) (ix2 a b) = 1#1 := by
  have e : within hi (wrapped n (rows hi v)) (ix2 a b)
      = Finset.fold IntOp.andi (1#1) (fun z : Fin 1 => IntOp.andi (IntOp.cmpi .sge (wrapped n (rows hi v) (ix3 a b z)) 0#32)
          (IntOp.cmpi .sle (wrapped n (rows hi v) (ix3 a b z)) hi)) Finset.univ := by
    pointwise [within]
  rw [e]
  simp only [wrapped_apply n h, bound_eq h (clip_le h _)]
  rfl

/-- A column of the features. -/
theorem column0 (x : FVec Ideal S4096x200x5 .f32) (a : Fin 4096) (b : Fin 200) :
    column ![0, 0, 0] slices_S4096x200x5_S4096x200x1_0_0_0 x (ix2 a b) = x (ix3 a b 0) := by
  pointwise [column]

/-- A column of the features. -/
theorem column2 (x : FVec Ideal S4096x200x5 .f32) (a : Fin 4096) (b : Fin 200) :
    column ![0, 0, 2] slices_S4096x200x5_S4096x200x1_0_0_2 x (ix2 a b) = x (ix3 a b 2) := by
  pointwise [column]

/-- A column of the features. -/
theorem column4 (x : FVec Ideal S4096x200x5 .f32) (a : Fin 4096) (b : Fin 200) :
    column ![0, 0, 4] slices_S4096x200x5_S4096x200x1_0_0_4 x (ix2 a b) = x (ix3 a b 4) := by
  pointwise [column]

/-- The protocol embedding reads the table's row of the clipped first feature. -/
theorem protoE_apply (x : FVec Ideal S4096x200x5 .f32) (t : FVec Ideal S256x32 .f32) (a : Fin 4096) (b : Fin 200) (k : Fin 32) :
    protoE x t (ix3 a b k) = t (ix2 (row 256 255#32 (by decide) (word (x (ix3 a b 0)))) k) := by
  pointwise [protoE]
  rw [within_apply _ (by decide)]
  refine Eq.trans (b := Host.gather gather_S256x32_S4096x200x1_S4096x200x32_2_0_n_n_0_2_132 t _ (ix3 a b k)) rfl ?_
  refine (gather_rows (by decide) _ t _ a b k).trans (congrArg (fun r => t (ix2 r k)) (Fin.ext ?_))
  show min _ _ = _
  rw [wrapped_apply _ (by decide), column0]
  exact clamp_eq _ _

/-- The flags embedding reads the table's row of the clipped third feature. -/
theorem flagsE_apply (x : FVec Ideal S4096x200x5 .f32) (t : FVec Ideal S64x32 .f32) (a : Fin 4096) (b : Fin 200) (k : Fin 32) :
    flagsE x t (ix3 a b k) = t (ix2 (row 64 63#32 (by decide) (word (x (ix3 a b 2)))) k) := by
  pointwise [flagsE]
  rw [within_apply _ (by decide)]
  refine Eq.trans (b := Host.gather gather_S64x32_S4096x200x1_S4096x200x32_2_0_n_n_0_2_132 t _ (ix3 a b k)) rfl ?_
  refine (gather_rows (by decide) _ t _ a b k).trans (congrArg (fun r => t (ix2 r k)) (Fin.ext ?_))
  show min _ _ = _
  rw [wrapped_apply _ (by decide), column2]
  exact clamp_eq _ _

/-- The direction embedding reads the table's row of the clipped fifth feature. -/
theorem dirE_apply (x : FVec Ideal S4096x200x5 .f32) (t : FVec Ideal S2x8 .f32) (a : Fin 4096) (b : Fin 200) (k : Fin 8) :
    dirE x t (ix3 a b k) = t (ix2 (row 2 1#32 (by decide) (word (x (ix3 a b 4)))) k) := by
  pointwise [dirE]
  rw [within_apply _ (by decide)]
  refine Eq.trans (b := Host.gather gather_S2x8_S4096x200x1_S4096x200x8_2_0_n_n_0_2_18 t _ (ix3 a b k)) rfl ?_
  refine (gather_rows (by decide) _ t _ a b k).trans (congrArg (fun r => t (ix2 r k)) (Fin.ext ?_))
  show min _ _ = _
  rw [wrapped_apply _ (by decide), column4]
  exact clamp_eq _ _

/-- The length embedding: the second feature times the weight, and the bias. -/
theorem scalarE1 (x : FVec Ideal S4096x200x5 .f32) (w : FVec Ideal S32x1 .f32) (u : FVec Ideal S32 .f32) (a : Fin 4096)
    (b : Fin 200) (k : Fin 32) : scalarE ![0, 0, 1] slices_S4096x200x5_S4096x200x1_0_0_1 x w u (ix3 a b k)
      = x (ix3 a b 1) * w (ix2 k 0) + u (ix1 k) := by
  pointwise [scalarE]
  rw [Fintype.sum_unique]

/-- The arrival-time embedding: the fourth feature times the weight, and the bias. -/
theorem scalarE3 (x : FVec Ideal S4096x200x5 .f32) (w : FVec Ideal S32x1 .f32) (u : FVec Ideal S32 .f32) (a : Fin 4096)
    (b : Fin 200) (k : Fin 32) : scalarE ![0, 0, 3] slices_S4096x200x5_S4096x200x1_0_0_3 x w u (ix3 a b k)
      = x (ix3 a b 3) * w (ix2 k 0) + u (ix1 k) := by
  pointwise [scalarE]
  rw [Fintype.sum_unique]

/-- A sum over 136 in five runs. -/
theorem sum_runs (g : Fin 136 → EReal) : ∑ k, g k = (∑ k : Fin 32, g ⟨k, by omega⟩) + (∑ k : Fin 32, g ⟨32 + k, by omega⟩)
    + (∑ k : Fin 32, g ⟨64 + k, by omega⟩) + (∑ k : Fin 32, g ⟨96 + k, by omega⟩) + ∑ k : Fin 8, g ⟨128 + k, by omega⟩ := by
  rw [Fin.sum_univ_add (a := 128) (b := 8) g, Fin.sum_univ_add (a := 96) (b := 32), Fin.sum_univ_add (a := 64) (b := 32),
    Fin.sum_univ_add (a := 32) (b := 32)]
  rfl

/-- An entry of the hidden layer: five runs of products, and the bias. -/
theorem hidden_apply (p l f i : FVec Ideal S4096x200x32 .f32) (d : FVec Ideal S4096x200x8 .f32) (w : FVec Ideal S256x136 .f32)
    (u : FVec Ideal S256 .f32) (a : Fin 4096) (b : Fin 200) (j : Fin 256) : hidden p l f i d w u (ix3 a b j)
      = (∑ k : Fin 32, p (ix3 a b k) * w (ix2 j ⟨k, by omega⟩)) + (∑ k : Fin 32, l (ix3 a b k) * w (ix2 j ⟨32 + k, by omega⟩))
        + (∑ k : Fin 32, f (ix3 a b k) * w (ix2 j ⟨64 + k, by omega⟩)) + (∑ k : Fin 32, i (ix3 a b k) * w (ix2 j ⟨96 + k, by omega⟩))
        + (∑ k : Fin 8, d (ix3 a b k) * w (ix2 j ⟨128 + k, by omega⟩)) + u (ix1 j) := by
  pointwise [hidden]
  rw [sum_runs]
  refine congrArg (· + u (ix1 j)) (congrArg₂ (· + ·) (congrArg₂ (· + ·) (congrArg₂ (· + ·) (congrArg₂ (· + ·) ?_ ?_) ?_) ?_) ?_)
    <;> refine Finset.sum_congr rfl fun k _ => ?_ <;> dsimp only
  · rw [dif_pos (by omega)]
  · rw [dif_neg (by omega), dif_pos (by omega)]
    exact congrArg (fun z => l (ix3 a b z) * w (ix2 j ⟨32 + k, by omega⟩)) (Fin.ext (by dsimp only; omega))
  · rw [dif_neg (by omega), dif_neg (by omega), dif_pos (by omega)]
    exact congrArg (fun z => f (ix3 a b z) * w (ix2 j ⟨64 + k, by omega⟩)) (Fin.ext (by dsimp only; omega))
  · rw [dif_neg (by omega), dif_neg (by omega), dif_neg (by omega), dif_pos (by omega)]
    exact congrArg (fun z => i (ix3 a b z) * w (ix2 j ⟨96 + k, by omega⟩)) (Fin.ext (by dsimp only; omega))
  · rw [dif_neg (by omega), dif_neg (by omega), dif_neg (by omega), dif_neg (by omega)]
    exact congrArg (fun z => d (ix3 a b z) * w (ix2 j ⟨128 + k, by omega⟩)) (Fin.ext (by dsimp only; omega))

/-- The count of the squares is 256, which is positive. -/
theorem count_eq : Norm.c256 - (FloatOps.sitofp (F := Ideal) .f32 0#32 : EReal) = Norm.c256 := by
  show Norm.c256 - (((0#32 : BitVec 32).toInt : ℝ) : EReal) = _
  rw [show (0#32 : BitVec 32).toInt = 0 from by decide]; simp

/-- An entry of the result is the normalization, by a square root and a division, of the hidden row. -/
theorem normed_apply (h : FVec Ideal S4096x200x256 .f32) (g u : FVec Ideal S256 .f32) (a : Fin 4096) (b : Fin 200) (j : Fin 256) :
    normed h g u (ix3 a b j) = Norm.bySqrt (fun k => h (ix3 a b k)) (g (ix1 j)) (u (ix1 j)) j := by
  pointwise [normed, devs, means, vars, count]
  rw [count_eq, if_pos (by rw [Norm.c256_eq]; exact_mod_cast (by norm_num : (0 : ℝ) < 256))]
  rfl

/-- The row of hidden entries of the reference, in their direct form, of the arguments. -/
def row (x : FVec Ideal S4096x200x5 .f32) (ep : FVec Ideal S256x32 .f32) (ef : FVec Ideal S64x32 .f32) (ed : FVec Ideal S2x8 .f32)
    (wl : FVec Ideal S32x1 .f32) (bl : FVec Ideal S32 .f32) (wi : FVec Ideal S32x1 .f32) (bi : FVec Ideal S32 .f32)
    (w : FVec Ideal S256x136 .f32) (bf : FVec Ideal S256 .f32) (a : Fin 4096) (b : Fin 200) (j : Fin 256) : EReal :=
  Hidden.direct (fun k => w (ix2 j k)) (fun k => ep (ix2 (Words.row 256 255#32 (by decide) (word (x (ix3 a b 0)))) k))
    (fun k => ef (ix2 (Words.row 64 63#32 (by decide) (word (x (ix3 a b 2)))) k))
    (fun k => ed (ix2 (Words.row 2 1#32 (by decide) (word (x (ix3 a b 4)))) k))
    (fun k => wl (ix2 k 0)) (fun k => bl (ix1 k)) (fun k => wi (ix2 k 0)) (fun k => bi (ix1 k)) (x (ix3 a b 1)) (x (ix3 a b 3))
    (bf (ix1 j))

/-- An entry of the reference's result: the normalization, by a square root and a division, of the row of hidden entries. -/
theorem whole_apply (x : FVec Ideal S4096x200x5 .f32) (ep : FVec Ideal S256x32 .f32) (ef : FVec Ideal S64x32 .f32)
    (ed : FVec Ideal S2x8 .f32) (wl : FVec Ideal S32x1 .f32) (bl : FVec Ideal S32 .f32) (wi : FVec Ideal S32x1 .f32)
    (bi : FVec Ideal S32 .f32) (w : FVec Ideal S256x136 .f32) (bf g u : FVec Ideal S256 .f32) (a : Fin 4096) (b : Fin 200)
    (j : Fin 256) : whole x ep ef ed wl bl wi bi w bf g u (ix3 a b j)
      = Norm.bySqrt (row x ep ef ed wl bl wi bi w bf a b) (g (ix1 j)) (u (ix1 j)) j := by
  refine (normed_apply _ g u a b j).trans (congrArg (fun h => Norm.bySqrt h (g (ix1 j)) (u (ix1 j)) j) (funext fun k => ?_))
  rw [hidden_apply]
  simp only [protoE_apply, scalarE1, flagsE_apply, scalarE3, dirE_apply]
  rfl

end Cert.Reference

end
-- ==== Proof.Finite.lean ====
/-
  What the precondition says: the two scalar features are finite, and so are the fusion weights that the two scalar
  embeddings meet.
-/
module

public import Idealize.ShloMosaic.Lib.Pointwise
public import Idealize.ShloMosaic.Lib.ReduceAll
public import proofs.«01_k».proof.Proof.Gen.Pre_finite_operands
public import proofs.«01_k».proof.Proof.Infinite

@[expose] public section

set_option maxRecDepth 16384

noncomputable section

open Idealize.ShloMosaic

namespace Cert.Finite

open Cert.Pre_finite_operands Cert.Pre_finite_operands.Gen Cert.Alike

/-- A value whose magnitude compares below infinity is not infinite. -/
theorem of_lt {a : EReal} (h : BitVec.ofBool (decide ((FloatOps.absf (F := Ideal) (φ := .f32) a : EReal)
    < Ideal.ofBits .f32 0x7F800000#32)) = 1#1) : ¬ Inf a := by
  have ht : Ideal.ofBits .f32 0x7F800000#32 = (⊤ : EReal) := by simp [Ideal.ofBits, Ideal.ieee]
  rw [ht] at h
  rintro (rfl | rfl)
  · have : (FloatOps.absf (F := Ideal) (φ := .f32) (⊤ : EReal) : EReal) = ⊤ := max_eq_left le_top
    rw [this] at h; simp at h
  · have : (FloatOps.absf (F := Ideal) (φ := .f32) (⊥ : EReal) : EReal) = ⊤ := by
      show max (⊥ : EReal) (-⊥) = ⊤; simp
    rw [this] at h; simp at h

/-- A conjunction of two one-bit words is 1 only when both are. -/
theorem andi_one {x y : BitVec 1} (h : IntOp.andi x y = 1#1) : x = 1#1 ∧ y = 1#1 := by
  rcases BitVec.eq_zero_or_eq_one x with rfl | rfl <;> rcases BitVec.eq_zero_or_eq_one y with rfl | rfl <;>
    simp_all [IntOp.andi]

/-- The precondition holds only when the second and fourth features and the two runs of fusion weights are not infinite. -/
theorem of_pre (x : FVec Ideal S4096x200x5 .f32) (ep : FVec Ideal S256x32 .f32) (ef : FVec Ideal S64x32 .f32)
    (ed : FVec Ideal S2x8 .f32) (wl : FVec Ideal S32x1 .f32) (bl : FVec Ideal S32 .f32) (wi : FVec Ideal S32x1 .f32)
    (bi : FVec Ideal S32 .f32) (w : FVec Ideal S256x136 .f32) (bf g u : FVec Ideal S256 .f32)
    (h : fn (F := Ideal) x ep ef ed wl bl wi bi w bf g u = fun _ => 1#1) :
    (∀ (a : Fin 4096) (b : Fin 200), ¬ Inf (x (ix3 a b 1))) ∧ (∀ (a : Fin 4096) (b : Fin 200), ¬ Inf (x (ix3 a b 3)))
      ∧ (∀ (j : Fin 256) (k : Fin 32), ¬ Inf (w (ix2 j ⟨32 + k, by omega⟩)))
      ∧ ∀ (j : Fin 256) (k : Fin 32), ¬ Inf (w (ix2 j ⟨96 + k, by omega⟩)) := by
  have e := congrFun h ix0
  unfold fn fn_part1 at e
  obtain ⟨e, e4⟩ := andi_one e
  obtain ⟨e, e3⟩ := andi_one e
  obtain ⟨e1, e2⟩ := andi_one e
  refine ⟨fun a b => of_lt ?_, fun a b => of_lt ?_, fun j k => of_lt ?_, fun j k => of_lt ?_⟩
  · have q := Host.reduce_andi_all _ _ _ _ _ e1 (ix2 a b)
    revert q; pointwise []; exact id
  · have q := Host.reduce_andi_all _ _ _ _ _ e2 (ix2 a b)
    revert q; pointwise []; exact id
  · have q := Host.reduce_andi_all _ _ _ _ _ e3 (ix2 j k)
    revert q; pointwise []; exact id
  · have q := Host.reduce_andi_all _ _ _ _ _ e4 (ix2 j k)
    revert q; pointwise []; exact id

end Cert.Finite

end
-- ==== Proof.Agree.lean ====
/-
  Where the kernel's result and the reference's agree: under the precondition, at every entry. The rows of hidden entries
  are alike, so their normalizations are equal.
-/
module

public import proofs.«01_k».proof.Proof.KernelRow
public import proofs.«01_k».proof.Proof.ReferenceRow
public import proofs.«01_k».proof.Proof.Finite

@[expose] public section

set_option maxRecDepth 16384

noncomputable section

open Idealize.ShloMosaic

namespace Cert.Agree

open Cert.KernelIdeal

/-- Under the precondition the kernel's result is the reference's, of the same arguments. -/
theorem whole_eq (x : FVec Ideal S4096x200x5 .f32) (ep : FVec Ideal S256x32 .f32) (ef : FVec Ideal S64x32 .f32)
    (ed : FVec Ideal S2x8 .f32) (wl : FVec Ideal S32x1 .f32) (bl : FVec Ideal S32 .f32) (wi : FVec Ideal S32x1 .f32)
    (bi : FVec Ideal S32 .f32) (w : FVec Ideal S256x136 .f32) (bf g u : FVec Ideal S256 .f32)
    (h : Pre_finite_operands.fn (F := Ideal) x ep ef ed wl bl wi bi w bf g u = fun _ => 1#1) :
    KernelRow.whole x ep ef ed wl bl wi bi w bf g u = Reference.whole x ep ef ed wl bl wi bi w bf g u := by
  obtain ⟨h1, h3, hl, hi⟩ := Finite.of_pre x ep ef ed wl bl wi bi w bf g u h
  funext i
  obtain ⟨a, b, j, rfl⟩ : ∃ (a : Fin 4096) (b : Fin 200) (j : Fin 256), i = ix3 a b j := ⟨i 0, i 1, i 2, eq_ix3 i⟩
  refine (KernelRow.whole_apply x ep ef ed wl bl wi bi w bf g u a b j).trans
    (Eq.trans ?_ (Reference.whole_apply x ep ef ed wl bl wi bi w bf g u a b j).symm)
  exact Norm.norm_alike _ _ _ _ j fun k => Hidden.alike _ _ _ _ _ _ _ _ _ _ _ (h1 a b) (h3 a b) (hl k) (hi k)

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_operands
public import proofs.«01_k».proof.Proof.Launch
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs to the end from any memory, leaves its arguments as they were, and every counter ends at zero. -/
theorem reference_frame : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- Under the precondition, from memories that agree on the arguments, the idealized kernel and the idealized reference
    end with the same result, and both leave their arguments as they were. -/
theorem value : Cert.algebraic_KernelIdeal_ReferenceIdeal_pre_finite_operands (hKernelIdeal := Cert.KernelIdeal.Gen.facts)
    (hReferenceIdeal := Cert.ReferenceIdeal.Gen.facts) (hPre_finite_operands := Cert.Pre_finite_operands.Gen.facts) := by
  intro m g m' g' hp ha
  refine ⟨fun c => Cert.KernelIdeal.Gen.W5 m g c Cert.KernelIdeal.main_v0, Cert.Launch.run m g, ?_⟩
  refine (θ_run Cert.ReferenceIdeal.defs _ _).mono (fun r h c => ⟨(h c).1.trans ?_, (h c).2⟩)
    (Cert.ReferenceIdeal.Value.run (F := Ideal) m' g')
  obtain ⟨e0, e1, e2, e3, e4, e5, e6, e7, e8, e9, e10, e11⟩ := ha c
  refine (Cert.Reference.result_eq m' c).trans ?_
  rw [e0, e1, e2, e3, e4, e5, e6, e7, e8, e9, e10, e11]
  exact ((Cert.KernelRow.result_eq m g c).trans (Cert.Agree.whole_eq _ _ _ _ _ _ _ _ _ _ _ _ (hp c))).symm

/-- Every claim of the certificate. -/
theorem claim : Cert.Claim := ⟨Cert.Kernel.Gen.facts, Cert.KernelIdeal.Gen.facts, Cert.ReferenceIdeal.Gen.facts,
  Cert.Pre_finite_operands.Gen.facts, fun m ρ _ => Cert.Kernel.Gen.frame m ρ, fun m ρ _ => Cert.KernelIdeal.Gen.frame m ρ,
  fun m ρ _ => Cert.KernelIdeal.Gen.frame m ρ, reference_frame, fun m ρ _ => reference_frame m ρ trivial, trivial, value⟩

end Cert.Proof

end
